-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_experts_in_range [hPre_experts_in_range : Cert.Pre_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_in_range [hPre_experts_in_range : Cert.Pre_experts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_experts_in_range [hKernelIdeal : Cert.KernelIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_experts_in_range [hReferenceIdeal : Cert.ReferenceIdeal.Facts] [hPre_experts_in_range : Cert.Pre_experts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_experts_in_range [hKernelIdeal : Cert.KernelIdeal.Facts] [hReferenceIdeal : Cert.ReferenceIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v20) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_experts_in_range : Cert.Pre_experts_in_range.Facts),
    quiescent_Kernel (hKernel := hKernel)
    ∧ quiescent_KernelIdeal (hKernelIdeal := hKernelIdeal)
    ∧ quiescent_KernelIdeal_pre_experts_in_range (hKernelIdeal := hKernelIdeal) (hPre_experts_in_range := hPre_experts_in_range)
    ∧ quiescent_ReferenceIdeal (hReferenceIdeal := hReferenceIdeal)
    ∧ quiescent_ReferenceIdeal_pre_experts_in_range (hReferenceIdeal := hReferenceIdeal) (hPre_experts_in_range := hPre_experts_in_range)
    ∧ preserves_Kernel_KernelIdeal
    ∧ algebraic_KernelIdeal_ReferenceIdeal_pre_experts_in_range (hKernelIdeal := hKernelIdeal) (hReferenceIdeal := hReferenceIdeal) (hPre_experts_in_range := hPre_experts_in_range)
-- ==== Pre_experts_in_range.lean ====
abbrev S6x256x2 : Shape := ⟨3, ![6, 256, 2]⟩
abbrev S6x10x64x6144 : Shape := ⟨4, ![6, 10, 64, 6144]⟩
abbrev S6x10x64 : Shape := ⟨3, ![6, 10, 64]⟩
abbrev S_ : Shape := ⟨0, ![]⟩

class Facts : Prop where
  bcast_S_S6x256x2 : S_.BroadcastsInDim S6x256x2 (![] : Fin 0 → Fin S6x256x2.rank)

variable [Facts]

def fn {F : FTy → Type} [FloatOps F] (main_arg0 : IVec S6x256x2 32) (main_arg1 : FVec F S6x256x2 .f32) (main_arg2 : FVec F S6x10x64x6144 .fp8e4m3) (main_arg3 : FVec F S6x10x64 .f32) : IVec S6x256x2 1 :=
  let main_c : IVec S_ 32 := constantI S_ 32 0#32
  let main_v0 : IVec S6x256x2 32 := broadcastInDim S6x256x2 ![] bcast_S_S6x256x2 main_c
  let main_v1 : IVec S6x256x2 1 := cmpi .sge main_arg0 main_v0
  let main_c_0 : IVec S_ 32 := constantI S_ 32 10#32
  let main_v2 : IVec S6x256x2 32 := broadcastInDim S6x256x2 ![] bcast_S_S6x256x2 main_c_0
  let main_v3 : IVec S6x256x2 1 := cmpi .slt main_arg0 main_v2
  let main_v4 : IVec S6x256x2 1 := andi main_v1 main_v3
  main_v4
-- ==== Kernel.lean ====
abbrev S6x256x2 : Shape := ⟨3, ![6, 256, 2]⟩
abbrev S6x10x64x6144 : Shape := ⟨4, ![6, 10, 64, 6144]⟩
abbrev S6x10x64 : Shape := ⟨3, ![6, 10, 64]⟩
abbrev S6x2x256 : Shape := ⟨3, ![6, 2, 256]⟩
abbrev S6x256x6144 : Shape := ⟨3, ![6, 256, 6144]⟩
abbrev S1x2x256 : Shape := ⟨3, ![1, 2, 256]⟩
abbrev S1x10x64 : Shape := ⟨3, ![1, 10, 64]⟩
abbrev S1x10x64x1536 : Shape := ⟨4, ![1, 10, 64, 1536]⟩
abbrev S1x256x1536 : Shape := ⟨3, ![1, 256, 1536]⟩
abbrev S512x640 : Shape := ⟨2, ![512, 640]⟩
abbrev S2x256x128 : Shape := ⟨3, ![2, 256, 128]⟩
abbrev S2x256 : Shape := ⟨2, ![2, 256]⟩
abbrev S10x64 : Shape := ⟨2, ![10, 64]⟩
abbrev S16x256 : Shape := ⟨2, ![16, 256]⟩
abbrev S1x256 : Shape := ⟨2, ![1, 256]⟩
abbrev S32x256 : Shape := ⟨2, ![32, 256]⟩
abbrev S256x256 : Shape := ⟨2, ![256, 256]⟩
abbrev S6x64 : Shape := ⟨2, ![6, 64]⟩
abbrev S16x64 : Shape := ⟨2, ![16, 64]⟩
abbrev S16x128 : Shape := ⟨2, ![16, 128]⟩
abbrev S256 : Shape := ⟨1, ![256]⟩
abbrev S16x128x1 : Shape := ⟨3, ![16, 128, 1]⟩
abbrev S1x1x256 : Shape := ⟨3, ![1, 1, 256]⟩
abbrev S4x256 : Shape := ⟨2, ![4, 256]⟩
abbrev S8x256 : Shape := ⟨2, ![8, 256]⟩
abbrev S256x8 : Shape := ⟨2, ![256, 8]⟩
abbrev S256x640 : Shape := ⟨2, ![256, 640]⟩
abbrev S256x1 : Shape := ⟨2, ![256, 1]⟩
abbrev S256x128 : Shape := ⟨2, ![256, 128]⟩
abbrev S1x256x128 : Shape := ⟨3, ![1, 256, 128]⟩
abbrev S10x64x1536 : Shape := ⟨3, ![10, 64, 1536]⟩
abbrev S640x1536 : Shape := ⟨2, ![640, 1536]⟩
abbrev S512x1536 : Shape := ⟨2, ![512, 1536]⟩
abbrev S_ : Shape := ⟨0, ![]⟩

abbrev nBuf : Space → Nat
  | .hbm => 17
  | .vmem => 18
  | .smem => 0
  | _ => 0

abbrev bufTy : (tb : Table) → Fin (tcTables nBuf tb) → BufTy
  | .hbm, ⟨0, _⟩ => ⟨S6x256x2, .i32⟩
  | .hbm, ⟨1, _⟩ => ⟨S6x256x2, .f32⟩
  | .hbm, ⟨2, _⟩ => ⟨S6x10x64x6144, .fp8e4m3⟩
  | .hbm, ⟨3, _⟩ => ⟨S6x10x64, .f32⟩
  | .hbm, ⟨4, _⟩ => ⟨S6x2x256, .i32⟩
  | .hbm, ⟨5, _⟩ => ⟨S6x2x256, .f32⟩
  | .hbm, ⟨6, _⟩ => ⟨S6x256x6144, .bf16⟩
  | .hbm, ⟨7, _⟩ => ⟨S6x2x256, .f32⟩
  | .hbm, ⟨8, _⟩ => ⟨S6x2x256, .i32⟩
  | .hbm, ⟨9, _⟩ => ⟨S6x2x256, .i32⟩
  | .hbm, ⟨10, _⟩ => ⟨S6x256x2, .f32⟩
  | .hbm, ⟨11, _⟩ => ⟨S6x256x2, .i32⟩
  | .hbm, ⟨12, _⟩ => ⟨S6x256x2, .i32⟩
  | .hbm, ⟨13, _⟩ => ⟨S_, .i32⟩
  | .hbm, ⟨14, _⟩ => ⟨S6x256x2, .i32⟩
  | .hbm, ⟨15, _⟩ => ⟨S6x256x2, .i1⟩
  | .hbm, ⟨16, _⟩ => ⟨S6x256x2, .i1⟩
  | .local _ .vmem, ⟨0, _⟩ => ⟨S1x2x256, .i32⟩
  | .local _ .vmem, ⟨1, _⟩ => ⟨S1x2x256, .i32⟩
  | .local _ .vmem, ⟨2, _⟩ => ⟨S1x2x256, .f32⟩
  | .local _ .vmem, ⟨3, _⟩ => ⟨S1x2x256, .f32⟩
  | .local _ .vmem, ⟨4, _⟩ => ⟨S1x10x64, .f32⟩
  | .local _ .vmem, ⟨5, _⟩ => ⟨S1x10x64, .f32⟩
  | .local _ .vmem, ⟨6, _⟩ => ⟨S1x10x64x1536, .fp8e4m3⟩
  | .local _ .vmem, ⟨7, _⟩ => ⟨S1x10x64x1536, .fp8e4m3⟩
  | .local _ .vmem, ⟨8, _⟩ => ⟨S1x256x1536, .bf16⟩
  | .local _ .vmem, ⟨9, _⟩ => ⟨S1x256x1536, .bf16⟩
  | .local _ .vmem, ⟨10, _⟩ => ⟨S1x2x256, .f32⟩
  | .local _ .vmem, ⟨11, _⟩ => ⟨S1x2x256, .f32⟩
  | .local _ .vmem, ⟨12, _⟩ => ⟨S1x2x256, .i32⟩
  | .local _ .vmem, ⟨13, _⟩ => ⟨S1x2x256, .i32⟩
  | .local _ .vmem, ⟨14, _⟩ => ⟨S1x2x256, .i32⟩
  | .local _ .vmem, ⟨15, _⟩ => ⟨S1x2x256, .i32⟩
  | .local _ .vmem, ⟨16, _⟩ => ⟨S512x640, .fp8e4m3⟩
  | .local _ .vmem, ⟨17, _⟩ => ⟨S2x256x128, .f32⟩
  | _, _ => ⟨S6x256x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![6, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x10x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x10x64x1536 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2x256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S6x256x2 : Shape := ⟨3, ![6, 256, 2]⟩
abbrev S6x10x64x6144 : Shape := ⟨4, ![6, 10, 64, 6144]⟩
abbrev S6x10x64 : Shape := ⟨3, ![6, 10, 64]⟩
abbrev S6x256x2x1 : Shape := ⟨4, ![6, 256, 2, 1]⟩
abbrev S1x1x1x10 : Shape := ⟨4, ![1, 1, 1, 10]⟩
abbrev S6x256x2x10 : Shape := ⟨4, ![6, 256, 2, 10]⟩
abbrev S_ : Shape := ⟨0, ![]⟩
abbrev S6x256x2x1x1 : Shape := ⟨5, ![6, 256, 2, 1, 1]⟩
abbrev S1 : Shape := ⟨1, ![1]⟩
abbrev S1x1x1x1x1 : Shape := ⟨5, ![1, 1, 1, 1, 1]⟩
abbrev S6x1x1x10 : Shape := ⟨4, ![6, 1, 1, 10]⟩
abbrev S6x10 : Shape := ⟨2, ![6, 10]⟩
abbrev S6x256x1 : Shape := ⟨3, ![6, 256, 1]⟩
abbrev S6x256 : Shape := ⟨2, ![6, 256]⟩
abbrev S1x1x1 : Shape := ⟨3, ![1, 1, 1]⟩
abbrev S6 : Shape := ⟨1, ![6]⟩
abbrev S6x1x1 : Shape := ⟨3, ![6, 1, 1]⟩
abbrev S3840x6144 : Shape := ⟨2, ![3840, 6144]⟩
abbrev S6x256x2x6144 : Shape := ⟨4, ![6, 256, 2, 6144]⟩
abbrev S3840 : Shape := ⟨1, ![3840]⟩
abbrev S6x256x6144 : Shape := ⟨3, ![6, 256, 6144]⟩
abbrev S6x256x1x6144 : Shape := ⟨4, ![6, 256, 1, 6144]⟩

abbrev nBuf : Space → Nat
  | .hbm => 107
  | .vmem => 3
  | .smem => 0
  | _ => 0

abbrev bufTy : (tb : Table) → Fin (tcTables nBuf tb) → BufTy
  | .hbm, ⟨0, _⟩ => ⟨S6x256x2, .i32⟩
  | .hbm, ⟨1, _⟩ => ⟨S6x256x2, .f32⟩
  | .hbm, ⟨2, _⟩ => ⟨S6x10x64x6144, .fp8e4m3⟩
  | .hbm, ⟨3, _⟩ => ⟨S6x10x64, .f32⟩
  | .hbm, ⟨4, _⟩ => ⟨S6x256x2x1, .i32⟩
  | .hbm, ⟨5, _⟩ => ⟨S1x1x1x10, .i32⟩
  | .hbm, ⟨6, _⟩ => ⟨S6x256x2x10, .i32⟩
  | .hbm, ⟨7, _⟩ => ⟨S6x256x2x10, .i32⟩
  | .hbm, ⟨8, _⟩ => ⟨S6x256x2x10, .i1⟩
  | .hbm, ⟨9, _⟩ => ⟨S6x256x2x10, .i32⟩
  | .hbm, ⟨10, _⟩ => ⟨S_, .i32⟩
  | .hbm, ⟨11, _⟩ => ⟨S_, .i32⟩
  | .hbm, ⟨12, _⟩ => ⟨S6x256x2x10, .i32⟩
  | .hbm, ⟨13, _⟩ => ⟨S6x256x2x1, .i32⟩
  | .hbm, ⟨14, _⟩ => ⟨S_, .i32⟩
  | .hbm, ⟨15, _⟩ => ⟨S6x256x2x1, .i32⟩
  | .hbm, ⟨16, _⟩ => ⟨S6x256x2x1, .i1⟩
  | .hbm, ⟨17, _⟩ => ⟨S_, .i32⟩
  | .hbm, ⟨18, _⟩ => ⟨S6x256x2x1, .i32⟩
  | .hbm, ⟨19, _⟩ => ⟨S6x256x2x1, .i32⟩
  | .hbm, ⟨20, _⟩ => ⟨S6x256x2x1, .i32⟩
  | .hbm, ⟨21, _⟩ => ⟨S6x256x2x1x1, .i32⟩
  | .hbm, ⟨22, _⟩ => ⟨S1, .i32⟩
  | .hbm, ⟨23, _⟩ => ⟨S_, .i32⟩
  | .hbm, ⟨24, _⟩ => ⟨S6x256x2x1x1, .i32⟩
  | .hbm, ⟨25, _⟩ => ⟨S6x256x2x1x1, .i1⟩
  | .hbm, ⟨26, _⟩ => ⟨S1x1x1x1x1, .i32⟩
  | .hbm, ⟨27, _⟩ => ⟨S6x256x2x1x1, .i32⟩
  | .hbm, ⟨28, _⟩ => ⟨S6x256x2x1x1, .i1⟩
  | .hbm, ⟨29, _⟩ => ⟨S6x256x2x1x1, .i1⟩
  | .hbm, ⟨30, _⟩ => ⟨S_, .i1⟩
  | .hbm, ⟨31, _⟩ => ⟨S6x256x2x1, .i1⟩
  | .hbm, ⟨32, _⟩ => ⟨S6x256x2x1, .i32⟩
  | .hbm, ⟨33, _⟩ => ⟨S_, .i32⟩
  | .hbm, ⟨34, _⟩ => ⟨S6x256x2x1, .i32⟩
  | .hbm, ⟨35, _⟩ => ⟨S6x256x2x1, .i32⟩
  | .hbm, ⟨36, _⟩ => ⟨S6x256x2, .i32⟩
  | .hbm, ⟨37, _⟩ => ⟨S_, .i32⟩
  | .hbm, ⟨38, _⟩ => ⟨S6x256x2, .i32⟩
  | .hbm, ⟨39, _⟩ => ⟨S6x256x2, .i32⟩
  | .hbm, ⟨40, _⟩ => ⟨S6x1x1x10, .i32⟩
  | .hbm, ⟨41, _⟩ => ⟨S6x10, .i32⟩
  | .hbm, ⟨42, _⟩ => ⟨S_, .i32⟩
  | .hbm, ⟨43, _⟩ => ⟨S6x10, .i32⟩
  | .hbm, ⟨44, _⟩ => ⟨S6x10, .i32⟩
  | .hbm, ⟨45, _⟩ => ⟨S6x256x1, .i32⟩
  | .hbm, ⟨46, _⟩ => ⟨S6x256, .i32⟩
  | .hbm, ⟨47, _⟩ => ⟨S_, .i32⟩
  | .hbm, ⟨48, _⟩ => ⟨S6x256, .i32⟩
  | .hbm, ⟨49, _⟩ => ⟨S6x256, .i1⟩
  | .hbm, ⟨50, _⟩ => ⟨S_, .i32⟩
  | .hbm, ⟨51, _⟩ => ⟨S6x256, .i32⟩
  | .hbm, ⟨52, _⟩ => ⟨S6x256, .i32⟩
  | .hbm, ⟨53, _⟩ => ⟨S6x256, .i32⟩
  | .hbm, ⟨54, _⟩ => ⟨S6x256x1, .i32⟩
  | .hbm, ⟨55, _⟩ => ⟨S1, .i32⟩
  | .hbm, ⟨56, _⟩ => ⟨S_, .i32⟩
  | .hbm, ⟨57, _⟩ => ⟨S6x256x1, .i32⟩
  | .hbm, ⟨58, _⟩ => ⟨S6x256x1, .i1⟩
  | .hbm, ⟨59, _⟩ => ⟨S1x1x1, .i32⟩
  | .hbm, ⟨60, _⟩ => ⟨S6x256x1, .i32⟩
  | .hbm, ⟨61, _⟩ => ⟨S6x256x1, .i1⟩
  | .hbm, ⟨62, _⟩ => ⟨S6x256x1, .i1⟩
  | .hbm, ⟨63, _⟩ => ⟨S_, .i1⟩
  | .hbm, ⟨64, _⟩ => ⟨S6x256, .i1⟩
  | .hbm, ⟨65, _⟩ => ⟨S6x256, .i32⟩
  | .hbm, ⟨66, _⟩ => ⟨S_, .i32⟩
  | .hbm, ⟨67, _⟩ => ⟨S6x256, .i32⟩
  | .hbm, ⟨68, _⟩ => ⟨S6x256, .i32⟩
  | .hbm, ⟨69, _⟩ => ⟨S_, .i32⟩
  | .hbm, ⟨70, _⟩ => ⟨S6x256, .i32⟩
  | .hbm, ⟨71, _⟩ => ⟨S6x256x1, .i32⟩
  | .hbm, ⟨72, _⟩ => ⟨S6x256x1, .i32⟩
  | .hbm, ⟨73, _⟩ => ⟨S6x256x2, .i32⟩
  | .hbm, ⟨74, _⟩ => ⟨S6x256x2, .i32⟩
  | .hbm, ⟨75, _⟩ => ⟨S_, .i32⟩
  | .hbm, ⟨76, _⟩ => ⟨S6x256x2, .i32⟩
  | .hbm, ⟨77, _⟩ => ⟨S6x256x2, .i1⟩
  | .hbm, ⟨78, _⟩ => ⟨S6x256x2, .f32⟩
  | .hbm, ⟨79, _⟩ => ⟨S6x256x2, .f32⟩
  | .hbm, ⟨80, _⟩ => ⟨S6x256x1, .f32⟩
  | .hbm, ⟨81, _⟩ => ⟨S6x256x1, .f32⟩
  | .hbm, ⟨82, _⟩ => ⟨S6x256x1, .f32⟩
  | .hbm, ⟨83, _⟩ => ⟨S6x256x2, .f32⟩
  | .hbm, ⟨84, _⟩ => ⟨S6x256x2, .f32⟩
  | .hbm, ⟨85, _⟩ => ⟨S_, .i32⟩
  | .hbm, ⟨86, _⟩ => ⟨S6x256x2, .i32⟩
  | .hbm, ⟨87, _⟩ => ⟨S6x256x2, .i32⟩
  | .hbm, ⟨88, _⟩ => ⟨S6, .i32⟩
  | .hbm, ⟨89, _⟩ => ⟨S6x1x1, .i32⟩
  | .hbm, ⟨90, _⟩ => ⟨S_, .i32⟩
  | .hbm, ⟨91, _⟩ => ⟨S6x1x1, .i32⟩
  | .hbm, ⟨92, _⟩ => ⟨S6x1x1, .i32⟩
  | .hbm, ⟨93, _⟩ => ⟨S6x256x2, .i32⟩
  | .hbm, ⟨94, _⟩ => ⟨S6x256x2, .i32⟩
  | .hbm, ⟨95, _⟩ => ⟨S_, .i32⟩
  | .hbm, ⟨96, _⟩ => ⟨S6x256x2, .i32⟩
  | .hbm, ⟨97, _⟩ => ⟨S6x256x2, .i32⟩
  | .hbm, ⟨98, _⟩ => ⟨S6x256x2, .i32⟩
  | .hbm, ⟨99, _⟩ => ⟨S3840x6144, .fp8e4m3⟩
  | .hbm, ⟨100, _⟩ => ⟨S6x256x2x1, .i32⟩
  | .hbm, ⟨101, _⟩ => ⟨S6x256x2x6144, .fp8e4m3⟩
  | .hbm, ⟨102, _⟩ => ⟨S3840, .f32⟩
  | .hbm, ⟨103, _⟩ => ⟨S6x256x2x1, .i32⟩
  | .hbm, ⟨104, _⟩ => ⟨S6x256x2, .f32⟩
  | .hbm, ⟨105, _⟩ => ⟨S6x256x2, .f32⟩
  | .hbm, ⟨106, _⟩ => ⟨S6x256x6144, .bf16⟩
  | .local _ .vmem, ⟨0, _⟩ => ⟨S6x256x2, .f32⟩
  | .local _ .vmem, ⟨1, _⟩ => ⟨S6x256x2x6144, .fp8e4m3⟩
  | .local _ .vmem, ⟨2, _⟩ => ⟨S6x256x6144, .bf16⟩
  | _, _ => ⟨S6x256x2, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_call1_call0_c : Ref sig .tc := ⟨.hbm, 10, rfl⟩
abbrev main_call1_call0_v0 : Ref sig .tc := ⟨.hbm, 11, rfl⟩
abbrev main_v1 : Ref sig .tc := ⟨.hbm, 12, rfl⟩
abbrev main_v2 : Ref sig .tc := ⟨.hbm, 13, rfl⟩
abbrev main_call2_c : Ref sig .tc := ⟨.hbm, 14, rfl⟩
abbrev main_call2_v0 : Ref sig .tc := ⟨.hbm, 15, rfl⟩
abbrev main_call2_v1 : Ref sig .tc := ⟨.hbm, 16, rfl⟩
abbrev main_call2_c_0 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_call2_v5 : Ref sig .tc := ⟨.hbm, 21, rfl⟩
abbrev main_call2_c_1 : Ref sig .tc := ⟨.hbm, 22, rfl⟩
abbrev main_call2_c_2 : Ref sig .tc := ⟨.hbm, 23, rfl⟩
abbrev main_call2_v6 : Ref sig .tc := ⟨.hbm, 24, rfl⟩
abbrev main_call2_v7 : Ref sig .tc := ⟨.hbm, 25, rfl⟩
abbrev main_call2_v8 : Ref sig .tc := ⟨.hbm, 26, rfl⟩
abbrev main_call2_v9 : Ref sig .tc := ⟨.hbm, 27, rfl⟩
abbrev main_call2_v10 : Ref sig .tc := ⟨.hbm, 28, rfl⟩
abbrev main_call2_v11 : Ref sig .tc := ⟨.hbm, 29, rfl⟩
abbrev main_call2_c_3 : Ref sig .tc := ⟨.hbm, 30, rfl⟩
abbrev main_call2_v12 : Ref sig .tc := ⟨.hbm, 31, rfl⟩
abbrev main_call2_v13 : Ref sig .tc := ⟨.hbm, 32, rfl⟩
abbrev main_call2_c_4 : Ref sig .tc := ⟨.hbm, 33, rfl⟩
abbrev main_call2_v14 : Ref sig .tc := ⟨.hbm, 34, rfl⟩
abbrev main_v3 : Ref sig .tc := ⟨.hbm, 35, rfl⟩
abbrev main_v4 : Ref sig .tc := ⟨.hbm, 36, rfl⟩
abbrev main_c : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_c_0 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_call3_c : Ref sig .tc := ⟨.hbm, 47, rfl⟩
abbrev main_call3_v0 : Ref sig .tc := ⟨.hbm, 48, rfl⟩
abbrev main_call3_v1 : Ref sig .tc := ⟨.hbm, 49, rfl⟩
abbrev main_call3_c_0 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_v5 : Ref sig .tc := ⟨.hbm, 54, rfl⟩
abbrev main_call3_c_1 : Ref sig .tc := ⟨.hbm, 55, rfl⟩
abbrev main_call3_c_2 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_call3_c_3 : Ref sig .tc := ⟨.hbm, 63, rfl⟩
abbrev main_call3_v12 : Ref sig .tc := ⟨.hbm, 64, rfl⟩
abbrev main_call3_v13 : Ref sig .tc := ⟨.hbm, 65, rfl⟩
abbrev main_call3_c_4 : Ref sig .tc := ⟨.hbm, 66, rfl⟩
abbrev main_call3_v14 : Ref sig .tc := ⟨.hbm, 67, rfl⟩
abbrev main_v13 : Ref sig .tc := ⟨.hbm, 68, rfl⟩
abbrev main_c_1 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_c_2 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_c_3 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_c_4 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_c_5 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_call4_v0 : Ref sig .tc := ⟨.hbm, 100, rfl⟩
abbrev main_v40 : Ref sig .tc := ⟨.hbm, 101, rfl⟩
abbrev main_v41 : Ref sig .tc := ⟨.hbm, 102, rfl⟩
abbrev main_call5_v0 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S6x256x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x2x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Kern.Base.lean ====
/- When the kernel body computes the routing, which outputs it leaves alone at the other points, and the names of
   its staging buffers and scratch. -/
module

public import proofs.«01_k».proof.Proof.Gen.KernelIdeal.Skeleton
public import proofs.«01_k».proof.Proof.Gen.KernelIdeal.Frame
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- When the body computes the routing: at the first of the four column blocks of a batch. -/
abbrev cond0_0 (i : grid0.Coords) : Prop := k0_cond1 i = 1#1
/-- It holds at the points ≡ 0 (mod 4) — by arithmetic of the point. -/
theorem hcond0_0 : ∀ t : Fin cfg0.N, cond0_0 (grid0.coords t) ↔ t.val % 4 = 0 :=
  (fun t => by
    have ht : t.val < 24 := Nat.lt_of_lt_of_eq t.isLt N_0
    have e0 : (grid0.coords t 0).val = t.val / 4 % 6 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-! ## Where the windows are idle -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
/-- At a batch's first point the routing outputs are stored, -/
theorem live5_A : ∀ t : Fin cfg0.N, cond0_0 (grid0.coords t) → cfg0.idle 5 (grid0.coords t) = false := by decide +kernel
theorem live6_A : ∀ t : Fin cfg0.N, cond0_0 (grid0.coords t) → cfg0.idle 6 (grid0.coords t) = false := by decide +kernel
theorem live7_A : ∀ t : Fin cfg0.N, cond0_0 (grid0.coords t) → cfg0.idle 7 (grid0.coords t) = false := by decide +kernel
/-- and at the others they are left alone. -/
theorem idle5_B : ∀ t : Fin cfg0.N, ¬cond0_0 (grid0.coords t) → cfg0.idle 5 (grid0.coords t) = true := by decide +kernel
theorem idle6_B : ∀ t : Fin cfg0.N, ¬cond0_0 (grid0.coords t) → cfg0.idle 6 (grid0.coords t) = true := by decide +kernel
theorem idle7_B : ∀ t : Fin cfg0.N, ¬cond0_0 (grid0.coords t) → cfg0.idle 7 (grid0.coords t) = true := by decide +kernel

/-- Whether a routing output's buffer still holds nothing of its batch before position `n`: only at a batch's first point. -/
def freshTab : ℕ → Bool
  | 0 => true
  | n + 1 => (0x888888 : ℕ).testBit n
theorem freshTab5_step : ∀ t : Fin cfg0.N,
    freshTab (t.val + 1) = ((cfg0.win 5).flush t || (cfg0.idle 5 (cfg0.grid.coords t) && freshTab t.val)) := by decide +kernel
theorem fresh5_eq (t : Fin cfg0.N) : cfg0.fresh 5 t.val = freshTab t.val :=
  Pipeline.Cfg.fresh_tab cfg0 5 freshTab rfl freshTab5_step t.val (Nat.le_of_lt t.isLt)
theorem notFresh5_B : ∀ t : Fin cfg0.N, ¬cond0_0 (grid0.coords t) → cfg0.fresh 5 t.val = false := by
  intro t; rw [fresh5_eq t]; revert t; decide +kernel
theorem freshTab6_step : ∀ t : Fin cfg0.N,
    freshTab (t.val + 1) = ((cfg0.win 6).flush t || (cfg0.idle 6 (cfg0.grid.coords t) && freshTab t.val)) := by decide +kernel
theorem fresh6_eq (t : Fin cfg0.N) : cfg0.fresh 6 t.val = freshTab t.val :=
  Pipeline.Cfg.fresh_tab cfg0 6 freshTab rfl freshTab6_step t.val (Nat.le_of_lt t.isLt)
theorem notFresh6_B : ∀ t : Fin cfg0.N, ¬cond0_0 (grid0.coords t) → cfg0.fresh 6 t.val = false := by
  intro t; rw [fresh6_eq t]; revert t; decide +kernel
theorem freshTab7_step : ∀ t : Fin cfg0.N,
    freshTab (t.val + 1) = ((cfg0.win 7).flush t || (cfg0.idle 7 (cfg0.grid.coords t) && freshTab t.val)) := by decide +kernel
theorem fresh7_eq (t : Fin cfg0.N) : cfg0.fresh 7 t.val = freshTab t.val :=
  Pipeline.Cfg.fresh_tab cfg0 7 freshTab rfl freshTab7_step t.val (Nat.le_of_lt t.isLt)
theorem notFresh7_B : ∀ t : Fin cfg0.N, ¬cond0_0 (grid0.coords t) → cfg0.fresh 7 t.val = false := by
  intro t; rw [fresh7_eq t]; revert t; decide +kernel

/-! ## Staging buffers and scratch -/

/-- Each window's current staging memref at point `t`, spelled as the pipeline passes it (`bodyAt0`), and its wholeness. -/
abbrev ms0_0 (t : Fin cfg0.N) : Memref sig .tc .vmem S1x2x256 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x10x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x10x64x1536 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x1536 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x256 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x256 .i32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S512x640 .fp8e4m3 := Memref.whole cc0_scratch0
abbrev scM0_1 : Memref sig .tc .vmem S2x256x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.Kern.RunA.lean ====
/- The kernel body run at a batch's first point. -/
module

public import proofs.«01_k».proof.Proof.Kern.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- The body at a batch's first point. On whole staging buffers holding the input blocks `x0` to `x3` it runs, and
    leaves the y block, the three routing outputs and the two scratch buffers with the pieces it stored (last first). -/
noncomputable def runA (c : Dev nD) (i : grid0.Coords) (arg2 : Memref sig .tc .vmem S1x2x256 .i32) (harg2 : arg2.IsWhole) (arg3 : Memref sig .tc .vmem S1x2x256 .f32) (harg3 : arg3.IsWhole) (arg4 : Memref sig .tc .vmem S1x10x64 .f32) (harg4 : arg4.IsWhole) (arg5 : Memref sig .tc .vmem S1x10x64x1536 .fp8e4m3) (harg5 : arg5.IsWhole) (arg6 : Memref sig .tc .vmem S1x256x1536 .bf16) (harg6 : arg6.IsWhole) (arg7 : Memref sig .tc .vmem S1x2x256 .f32) (harg7 : arg7.IsWhole) (arg8 : Memref sig .tc .vmem S1x2x256 .i32) (harg8 : arg8.IsWhole) (arg9 : Memref sig .tc .vmem S1x2x256 .i32) (harg9 : arg9.IsWhole) (arg10 : Memref sig .tc .vmem S512x640 .fp8e4m3) (harg10 : arg10.IsWhole) (arg11 : Memref sig .tc .vmem S2x256x128 .f32) (harg11 : arg11.IsWhole) (hc0 : cond0_0 i)
    (x0 : Vec F S1x2x256 .i32) (x1 : Vec F S1x2x256 .f32) (x2 : Vec F S1x10x64 .f32) (x3 : Vec F S1x10x64x1536 .fp8e4m3) :
    Σ' (L4 : List (View.Piece (Elt F) S1x256x1536 .bf16)), Σ' (L5 : List (View.Piece (Elt F) S1x2x256 .f32)), Σ' (L6 : List (View.Piece (Elt F) S1x2x256 .i32)), Σ' (L7 : List (View.Piece (Elt F) S1x2x256 .i32)), Σ' (LS0 : List (View.Piece (Elt F) S512x640 .fp8e4m3)), { LS1 : List (View.Piece (Elt F) S2x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__body_eq_skeleton]; unfold cc0__body_skel
    simp only [k0_part5_eq_skeleton, k0_part1_eq_skeleton, k0_part2_eq_skeleton, k0_part3_eq_skeleton, k0_part4_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [HS0]; · iexists _; iexact HS0
    iexists _; iexact HS1

end Cert.KernelIdeal.Hand

end
-- ==== Proof.Kern.RunB.lean ====
/- The kernel body run at a batch's later points. -/
module

public import proofs.«01_k».proof.Proof.Kern.RunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- The body at a later point of a batch. On whole staging buffers holding the input blocks and scratch holding `xs0`
    and `xs1` it runs, leaves the scratch as it was, and the y block with the pieces it stored (last first); the routing
    outputs' buffers are not touched. -/
noncomputable def runB (c : Dev nD) (i : grid0.Coords) (arg2 : Memref sig .tc .vmem S1x2x256 .i32) (harg2 : arg2.IsWhole) (arg3 : Memref sig .tc .vmem S1x2x256 .f32) (harg3 : arg3.IsWhole) (arg4 : Memref sig .tc .vmem S1x10x64 .f32) (harg4 : arg4.IsWhole) (arg5 : Memref sig .tc .vmem S1x10x64x1536 .fp8e4m3) (harg5 : arg5.IsWhole) (arg6 : Memref sig .tc .vmem S1x256x1536 .bf16) (harg6 : arg6.IsWhole) (arg7 : Memref sig .tc .vmem S1x2x256 .f32) (harg7 : arg7.IsWhole) (arg8 : Memref sig .tc .vmem S1x2x256 .i32) (harg8 : arg8.IsWhole) (arg9 : Memref sig .tc .vmem S1x2x256 .i32) (harg9 : arg9.IsWhole) (arg10 : Memref sig .tc .vmem S512x640 .fp8e4m3) (harg10 : arg10.IsWhole) (arg11 : Memref sig .tc .vmem S2x256x128 .f32) (harg11 : arg11.IsWhole) (hc0 : ¬cond0_0 i)
    (x0 : Vec F S1x2x256 .i32) (x1 : Vec F S1x2x256 .f32) (x2 : Vec F S1x10x64 .f32) (x3 : Vec F S1x10x64x1536 .fp8e4m3) (xs0 : Vec F S512x640 .fp8e4m3) (xs1 : Vec F S2x256x128 .f32) :
    { L4 : List (View.Piece (Elt F) S1x256x1536 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg10 fullShare xs0 ∗ owns (c : Thread nD τ) arg11 fullShare xs1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, fun E K => ?run⟩
  case run =>
    simp only [cc0__body_eq_skeleton]; unfold cc0__body_skel
    simp only [k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg10.eq_unread hfs0; obtain rfl := harg11.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg10.read_unread _
      iexact HS0
    iexists _; isplitr; · ipureintro; exact harg11.read_unread _
    iexact HS1

end Cert.KernelIdeal.Hand

end
-- ==== Proof.Kern.Pieces.lean ====
/- What the body leaves in its buffers, as functions of the blocks it read. -/
module

public import proofs.«01_k».proof.Proof.Kern.RunB
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The routing of one batch, from its block of expert ids `x0`, gates `x1` and scales `x2` -/

/-- First choice: the token's rank among the tokens of its expert, counted from one. -/
def cnt0 (x0 : Vec F S1x2x256 .i32) : IVec S1x256 32 := k0_pay11 x0
/-- Second choice: the same, after the first choices the expert kept. -/
def cnt1 (x0 : Vec F S1x2x256 .i32) : IVec S1x256 32 := k0_pay18 (k0_pay5 x0) (k0_pay7 x0) (k0_pay8 x0)
/-- The expert numbers the one-hot rows are compared with. -/
def expIota : IVec S16x256 32 := iota .tc S16x256 32 [0] iota_S16x256_d0_w32
/-- The row of the expert table each token takes, first choice, -/
def flat0 (x0 : Vec F S1x2x256 .i32) : IVec S1x256 32 := k0_pay16 (k0_pay2 x0) (cnt0 x0) 1#32
/-- and second. -/
def flat1 (x0 : Vec F S1x2x256 .i32) : IVec S1x256 32 := k0_pay23 (k0_pay2 x0) (cnt1 x0)
/-- The weight that row gets, first choice, -/
def wgt0 (x0 : Vec F S1x2x256 .i32) (x1 : Vec F S1x2x256 .f32) (x2 : Vec F S1x10x64 .f32) : FVec F S1x256 .f32 :=
  k0_pay17 (k0_pay2 x0) (k0_pay3 x1) expIota (k0_pay9 x1) (k0_pay10 x2) (cnt0 x0) 1#32
/-- and second. -/
def wgt1 (x0 : Vec F S1x2x256 .i32) (x1 : Vec F S1x2x256 .f32) (x2 : Vec F S1x10x64 .f32) : FVec F S1x256 .f32 :=
  k0_pay24 (k0_pay2 x0) (k0_pay3 x1) expIota (k0_pay9 x1) (k0_pay10 x2) (cnt1 x0)

/-! ## The stored pieces, last first -/

/-- Positions. -/
def posPieces (x0 : Vec F S1x2x256 .i32) : List (View.Piece (Elt F) S1x2x256 .i32) :=
  [⟨Rect.unit ![0, 1, 0] S1x1x256.size inb_S1x2x256_S1x1x256_0_1_0, k0_pay28 (k0_pay19 (cnt1 x0))⟩,
   ⟨Rect.unit ![0, 0, 0] S1x1x256.size inb_S1x2x256_S1x1x256_0_0_0, k0_pay25 (k0_pay12 (cnt0 x0) 1#32)⟩]
/-- Keep flags. -/
def keepPieces (x0 : Vec F S1x2x256 .i32) : List (View.Piece (Elt F) S1x2x256 .i32) :=
  [⟨Rect.unit ![0, 1, 0] S1x1x256.size inb_S1x2x256_S1x1x256_0_1_0, k0_pay29 (k0_pay20 (cnt1 x0))⟩,
   ⟨Rect.unit ![0, 0, 0] S1x1x256.size inb_S1x2x256_S1x1x256_0_0_0, k0_pay26 (k0_pay13 (cnt0 x0) 1#32)⟩]
/-- Combine weights. -/
def combPieces (x0 : Vec F S1x2x256 .i32) (x1 : Vec F S1x2x256 .f32) : List (View.Piece (Elt F) S1x2x256 .f32) :=
  [⟨Rect.unit ![0, 1, 0] S1x1x256.size inb_S1x2x256_S1x1x256_0_1_0, k0_pay30 (k0_pay21 (k0_pay3 x1) (k0_pay9 x1) (cnt1 x0))⟩,
   ⟨Rect.unit ![0, 0, 0] S1x1x256.size inb_S1x2x256_S1x1x256_0_0_0, k0_pay27 (k0_pay14 (k0_pay3 x1) (k0_pay9 x1) (cnt0 x0) 1#32)⟩]
/-- The one-hot selection matrix: 256 rows per choice. -/
def selPieces (x0 : Vec F S1x2x256 .i32) (x1 : Vec F S1x2x256 .f32) (x2 : Vec F S1x10x64 .f32) : List (View.Piece (Elt F) S512x640 .fp8e4m3) :=
  [⟨Rect.unit ![256, 0] S256x640.size inb_S512x640_S256x640_256_0, k0_pay35 (k0_pay31 (flat0 x0) (wgt0 x0 x1 x2) (flat1 x0) (wgt1 x0 x1 x2)) (iota .tc S256x640 32 [1] iota_S256x640_d1_w32)⟩,
   ⟨Rect.unit ![0, 0] S256x640.size inb_S512x640_S256x640_0_0, k0_pay32 (flat0 x0) (wgt0 x0 x1 x2) (flat1 x0) (wgt1 x0 x1 x2)⟩]
/-- The weights, spread along the lanes. -/
def wPieces (x0 : Vec F S1x2x256 .i32) (x1 : Vec F S1x2x256 .f32) (x2 : Vec F S1x10x64 .f32) : List (View.Piece (Elt F) S2x256x128 .f32) :=
  [⟨Rect.unit ![1, 0, 0] S1x256x128.size inb_S2x256x128_S1x256x128_1_0_0, k0_pay36 (k0_pay31 (flat0 x0) (wgt0 x0 x1 x2) (flat1 x0) (wgt1 x0 x1 x2))⟩,
   ⟨Rect.unit ![0, 0, 0] S1x256x128.size inb_S2x256x128_S1x256x128_0_0_0, k0_pay34 (k0_pay33 (flat0 x0) (wgt0 x0 x1 x2) (flat1 x0) (wgt1 x0 x1 x2))⟩]

/-- The spread weights of the two choices. -/
def wRow0 (W : Vec F S2x256x128 .f32) : Vec F S1x256x128 .f32 := View.ld (Val := Elt F) (e' := .f32) W (Rect.unit ![0, 0, 0] S1x256x128.size inb_S2x256x128_S1x256x128_0_0_0)
def wRow1 (W : Vec F S2x256x128 .f32) : Vec F S1x256x128 .f32 := View.ld (Val := Elt F) (e' := .f32) W (Rect.unit ![1, 0, 0] S1x256x128.size inb_S2x256x128_S1x256x128_1_0_0)

/-- The y block: twelve lane tiles, from the code block `x3`, selection matrix `P` and spread weights `W`. -/
def yPieces (x3 : Vec F S1x10x64x1536 .fp8e4m3) (P : Vec F S512x640 .fp8e4m3) (W : Vec F S2x256x128 .f32) : List (View.Piece (Elt F) S1x256x1536 .bf16) :=
  [⟨Rect.unit ![0, 0, 1408] S1x256x128.size inb_S1x256x1536_S1x256x128_0_0_1408, k0_pay1 (k0_pay53 (k0_pay37 x3 P) (k0_pay38 (wRow0 W)) (k0_pay39 (wRow1 W)))⟩,
   ⟨Rect.unit ![0, 0, 1280] S1x256x128.size inb_S1x256x1536_S1x256x128_0_0_1280, k0_pay52 (k0_pay37 x3 P) (k0_pay38 (wRow0 W)) (k0_pay39 (wRow1 W))⟩,
   ⟨Rect.unit ![0, 0, 1152] S1x256x128.size inb_S1x256x1536_S1x256x128_0_0_1152, k0_pay51 (k0_pay37 x3 P) (k0_pay38 (wRow0 W)) (k0_pay39 (wRow1 W))⟩,
   ⟨Rect.unit ![0, 0, 1024] S1x256x128.size inb_S1x256x1536_S1x256x128_0_0_1024, k0_pay50 (k0_pay37 x3 P) (k0_pay38 (wRow0 W)) (k0_pay39 (wRow1 W))⟩,
   ⟨Rect.unit ![0, 0, 896] S1x256x128.size inb_S1x256x1536_S1x256x128_0_0_896, k0_pay49 (k0_pay37 x3 P) (k0_pay38 (wRow0 W)) (k0_pay39 (wRow1 W))⟩,
   ⟨Rect.unit ![0, 0, 768] S1x256x128.size inb_S1x256x1536_S1x256x128_0_0_768, k0_pay48 (k0_pay37 x3 P) (k0_pay38 (wRow0 W)) (k0_pay39 (wRow1 W))⟩,
   ⟨Rect.unit ![0, 0, 640] S1x256x128.size inb_S1x256x1536_S1x256x128_0_0_640, k0_pay47 (k0_pay37 x3 P) (k0_pay38 (wRow0 W)) (k0_pay39 (wRow1 W))⟩,
   ⟨Rect.unit ![0, 0, 512] S1x256x128.size inb_S1x256x1536_S1x256x128_0_0_512, k0_pay46 (k0_pay37 x3 P) (k0_pay38 (wRow0 W)) (k0_pay39 (wRow1 W))⟩,
   ⟨Rect.unit ![0, 0, 384] S1x256x128.size inb_S1x256x1536_S1x256x128_0_0_384, k0_pay45 (k0_pay37 x3 P) (k0_pay38 (wRow0 W)) (k0_pay39 (wRow1 W))⟩,
   ⟨Rect.unit ![0, 0, 256] S1x256x128.size inb_S1x256x1536_S1x256x128_0_0_256, k0_pay44 (k0_pay42 x3 P (wRow0 W)) (k0_pay43 x3 P (wRow1 W))⟩,
   ⟨Rect.unit ![0, 0, 128] S1x256x128.size inb_S1x256x1536_S1x256x128_0_0_128, k0_pay41 x3 P (wRow0 W) (wRow1 W)⟩,
   ⟨Rect.unit ![0, 0, 0] S1x256x128.size inb_S1x256x1536_S1x256x128_0_0_0, k0_pay40 x3 P (wRow0 W) (wRow1 W)⟩]

/-! ## What they leave -/

def posBlk (x0 : Vec F S1x2x256 .i32) : Vec F S1x2x256 .i32 := View.canon (posPieces (F := F) x0)
def keepBlk (x0 : Vec F S1x2x256 .i32) : Vec F S1x2x256 .i32 := View.canon (keepPieces (F := F) x0)
def combBlk (x0 : Vec F S1x2x256 .i32) (x1 : Vec F S1x2x256 .f32) : Vec F S1x2x256 .f32 := View.canon (combPieces x0 x1)
def selMat (x0 : Vec F S1x2x256 .i32) (x1 : Vec F S1x2x256 .f32) (x2 : Vec F S1x10x64 .f32) : Vec F S512x640 .fp8e4m3 := View.canon (selPieces x0 x1 x2)
def wMat (x0 : Vec F S1x2x256 .i32) (x1 : Vec F S1x2x256 .f32) (x2 : Vec F S1x10x64 .f32) : Vec F S2x256x128 .f32 := View.canon (wPieces x0 x1 x2)
def yBlk (x3 : Vec F S1x10x64x1536 .fp8e4m3) (P : Vec F S512x640 .fp8e4m3) (W : Vec F S2x256x128 .f32) : Vec F S1x256x1536 .bf16 := View.canon (yPieces x3 P W)

/-- A load through a whole buffer holding `X` reads `X`. -/
theorem readAt_unread {κ : Kind} {sp : Space} {s : Shape} {e : EltTy} {m : Memref sig κ sp s e} (h : m.IsWhole) (X : s.Idx → Elt F e) (r : Rect s) :
    View.readAt (Elt F) m.view r.toLoadRect (h.unread X) = View.ld X r := by
  funext j; rw [View.readAt_apply, h.read_unread]

/-- A load of what covering pieces left reads their canonical contents. -/
theorem readCov_ld {κ : Kind} {sp : Space} {s : Shape} {e : EltTy} (v : View sig κ sp s e) (L : List (View.Piece (Elt F) s e)) (r : Rect s) :
    v.readCov L r.toLoadRect = View.ld (View.canon L) r := View.readCov_eq_canon' v L _

section RunA
variable (c : Dev nD) (i : grid0.Coords) (arg2 : Memref sig .tc .vmem S1x2x256 .i32) (harg2 : arg2.IsWhole) (arg3 : Memref sig .tc .vmem S1x2x256 .f32) (harg3 : arg3.IsWhole) (arg4 : Memref sig .tc .vmem S1x10x64 .f32) (harg4 : arg4.IsWhole) (arg5 : Memref sig .tc .vmem S1x10x64x1536 .fp8e4m3) (harg5 : arg5.IsWhole) (arg6 : Memref sig .tc .vmem S1x256x1536 .bf16) (harg6 : arg6.IsWhole) (arg7 : Memref sig .tc .vmem S1x2x256 .f32) (harg7 : arg7.IsWhole) (arg8 : Memref sig .tc .vmem S1x2x256 .i32) (harg8 : arg8.IsWhole) (arg9 : Memref sig .tc .vmem S1x2x256 .i32) (harg9 : arg9.IsWhole) (arg10 : Memref sig .tc .vmem S512x640 .fp8e4m3) (harg10 : arg10.IsWhole) (arg11 : Memref sig .tc .vmem S2x256x128 .f32) (harg11 : arg11.IsWhole)  (hc0 : cond0_0 i)
    (x0 : Vec F S1x2x256 .i32) (x1 : Vec F S1x2x256 .f32) (x2 : Vec F S1x10x64 .f32) (x3 : Vec F S1x10x64x1536 .fp8e4m3)

theorem runA_pos : (runA c i arg2 harg2 arg3 harg3 arg4 harg4 arg5 harg5 arg6 harg6 arg7 harg7 arg8 harg8 arg9 harg9 arg10 harg10 arg11 harg11 hc0 x0 x1 x2 x3).2.2.1 = posPieces x0 := by
  unfold runA
  dsimp only
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28]
  simp only [readAt_unread]
  simp only [View.ld_unit_zero (S := S1x2x256) (off := ![0, 0, 0]) (by decide)]
  rfl
theorem runA_keep : (runA c i arg2 harg2 arg3 harg3 arg4 harg4 arg5 harg5 arg6 harg6 arg7 harg7 arg8 harg8 arg9 harg9 arg10 harg10 arg11 harg11 hc0 x0 x1 x2 x3).2.2.2.1 = keepPieces x0 := by
  unfold runA
  dsimp only
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28]
  simp only [readAt_unread]
  simp only [View.ld_unit_zero (S := S1x2x256) (off := ![0, 0, 0]) (by decide)]
  rfl
theorem runA_comb : (runA c i arg2 harg2 arg3 harg3 arg4 harg4 arg5 harg5 arg6 harg6 arg7 harg7 arg8 harg8 arg9 harg9 arg10 harg10 arg11 harg11 hc0 x0 x1 x2 x3).2.1 = combPieces x0 x1 := by
  unfold runA
  dsimp only
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28]
  simp only [readAt_unread]
  simp only [View.ld_unit_zero (S := S1x2x256) (off := ![0, 0, 0]) (by decide)]
  rfl
theorem selPieces_A : runA.sl.HS0_2 c arg2 harg2 arg3 harg3 arg4 harg4 x0 x1 x2 = selPieces x0 x1 x2 := by
  unfold runA.sl.HS0_2
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28]
  simp only [readAt_unread]
  simp only [View.ld_unit_zero (S := S1x2x256) (off := ![0, 0, 0]) (by decide), View.ld_unit_zero (S := S1x10x64) (off := ![0, 0, 0]) (by decide)]
  rfl
theorem wPieces_A : runA.sl.HS1_2 c arg2 harg2 arg3 harg3 arg4 harg4 x0 x1 x2 = wPieces x0 x1 x2 := by
  unfold runA.sl.HS1_2
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28]
  simp only [readAt_unread]
  simp only [View.ld_unit_zero (S := S1x2x256) (off := ![0, 0, 0]) (by decide), View.ld_unit_zero (S := S1x10x64) (off := ![0, 0, 0]) (by decide)]
  rfl
theorem runA_sel : (runA c i arg2 harg2 arg3 harg3 arg4 harg4 arg5 harg5 arg6 harg6 arg7 harg7 arg8 harg8 arg9 harg9 arg10 harg10 arg11 harg11 hc0 x0 x1 x2 x3).2.2.2.2.1 = selPieces x0 x1 x2 :=
  selPieces_A ..
theorem runA_w : (runA c i arg2 harg2 arg3 harg3 arg4 harg4 arg5 harg5 arg6 harg6 arg7 harg7 arg8 harg8 arg9 harg9 arg10 harg10 arg11 harg11 hc0 x0 x1 x2 x3).2.2.2.2.2.1 = wPieces x0 x1 x2 :=
  wPieces_A ..
theorem runA_y : (runA c i arg2 harg2 arg3 harg3 arg4 harg4 arg5 harg5 arg6 harg6 arg7 harg7 arg8 harg8 arg9 harg9 arg10 harg10 arg11 harg11 hc0 x0 x1 x2 x3).1 = yPieces x3 (selMat x0 x1 x2) (wMat x0 x1 x2) := by
  unfold runA
  dsimp only
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.v6, runA.sl.v8, runA.sl.v10, selPieces_A, wPieces_A]
  simp only [readAt_unread, readCov_ld]
  simp only [View.ld_unit_zero (S := S512x640) (off := ![0, 0]) (by decide), View.ld_unit_zero (S := S1x10x64x1536) (off := ![0, 0, 0, 0]) (by decide)]
  simp only [yPieces, selMat, wMat, wRow0, wRow1]
end RunA

section RunB
variable (c : Dev nD) (i : grid0.Coords) (arg2 : Memref sig .tc .vmem S1x2x256 .i32) (harg2 : arg2.IsWhole) (arg3 : Memref sig .tc .vmem S1x2x256 .f32) (harg3 : arg3.IsWhole) (arg4 : Memref sig .tc .vmem S1x10x64 .f32) (harg4 : arg4.IsWhole) (arg5 : Memref sig .tc .vmem S1x10x64x1536 .fp8e4m3) (harg5 : arg5.IsWhole) (arg6 : Memref sig .tc .vmem S1x256x1536 .bf16) (harg6 : arg6.IsWhole) (arg7 : Memref sig .tc .vmem S1x2x256 .f32) (harg7 : arg7.IsWhole) (arg8 : Memref sig .tc .vmem S1x2x256 .i32) (harg8 : arg8.IsWhole) (arg9 : Memref sig .tc .vmem S1x2x256 .i32) (harg9 : arg9.IsWhole) (arg10 : Memref sig .tc .vmem S512x640 .fp8e4m3) (harg10 : arg10.IsWhole) (arg11 : Memref sig .tc .vmem S2x256x128 .f32) (harg11 : arg11.IsWhole) (hc0 : ¬cond0_0 i)
    (x0 : Vec F S1x2x256 .i32) (x1 : Vec F S1x2x256 .f32) (x2 : Vec F S1x10x64 .f32) (x3 : Vec F S1x10x64x1536 .fp8e4m3) (xs0 : Vec F S512x640 .fp8e4m3) (xs1 : Vec F S2x256x128 .f32)
theorem runB_y : (runB c i arg2 harg2 arg3 harg3 arg4 harg4 arg5 harg5 arg6 harg6 arg7 harg7 arg8 harg8 arg9 harg9 arg10 harg10 arg11 harg11 hc0 x0 x1 x2 x3 xs0 xs1).1 = yPieces x3 xs0 xs1 := by
  unfold runB
  dsimp only
  simp only [runB.sl.r, runB.sl.r_1, runB.sl.r_2, runB.sl.r_3, runB.sl.r_4, runB.sl.r_5, runB.sl.r_6]
  simp only [readAt_unread]
  simp only [View.ld_unit_zero (S := S512x640) (off := ![0, 0]) (by decide), View.ld_unit_zero (S := S1x10x64x1536) (off := ![0, 0, 0, 0]) (by decide)]
  rfl
end RunB

end Cert.KernelIdeal.Hand

end
-- ==== Proof.Kern.State.lean ====
/- What every buffer holds after each grid point, and the run of the whole launch. -/
module

public import proofs.«01_k».proof.Proof.Kern.Pieces
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover their buffers -/

theorem posCover (x0 : Vec F S1x2x256 .i32) (y : S1x2x256.Idx) : ∃ pc ∈ posPieces (F := F) x0, y ∈ pc.1.set :=
  View.cover_of_tiledL (posPieces x0) S1x1x256.size (by sl_kernel_rfl) y
theorem keepCover (x0 : Vec F S1x2x256 .i32) (y : S1x2x256.Idx) : ∃ pc ∈ keepPieces (F := F) x0, y ∈ pc.1.set :=
  View.cover_of_tiledL (keepPieces x0) S1x1x256.size (by sl_kernel_rfl) y
theorem combCover (x0 : Vec F S1x2x256 .i32) (x1 : Vec F S1x2x256 .f32) (y : S1x2x256.Idx) : ∃ pc ∈ combPieces x0 x1, y ∈ pc.1.set :=
  View.cover_of_tiledL (combPieces x0 x1) S1x1x256.size (by sl_kernel_rfl) y
theorem selCover (x0 : Vec F S1x2x256 .i32) (x1 : Vec F S1x2x256 .f32) (x2 : Vec F S1x10x64 .f32) (y : S512x640.Idx) : ∃ pc ∈ selPieces x0 x1 x2, y ∈ pc.1.set :=
  View.cover_of_tiledL (selPieces x0 x1 x2) S256x640.size (by sl_kernel_rfl) y
theorem wCover (x0 : Vec F S1x2x256 .i32) (x1 : Vec F S1x2x256 .f32) (x2 : Vec F S1x10x64 .f32) (y : S2x256x128.Idx) : ∃ pc ∈ wPieces x0 x1 x2, y ∈ pc.1.set :=
  View.cover_of_tiledL (wPieces x0 x1 x2) S1x256x128.size (by sl_kernel_rfl) y
theorem yCover (x3 : Vec F S1x10x64x1536 .fp8e4m3) (P : Vec F S512x640 .fp8e4m3) (W : Vec F S2x256x128 .f32) (y : S1x256x1536.Idx) : ∃ pc ∈ yPieces x3 P W, y ∈ pc.1.set :=
  View.cover_of_tiledL (yPieces x3 P W) S1x256x128.size (by sl_kernel_rfl) y

/-- Through any view, writes of a piece list equal to a covering one read its canonical contents. -/
theorem read_of_pieces {κ : Kind} {sp : Space} {s : Shape} {e : EltTy} (v : View sig κ sp s e) (f : v.ty.Contents (Elt F)) {L L' : List (View.Piece (Elt F) s e)}
    (h : L = L') (hc : ∀ y, ∃ p ∈ L', y ∈ p.1.set) : v.read (Elt F) (v.writes (Elt F) f L) = View.canon L' := by
  subst h; exact View.read_writes_eq_canon v f _ hc

/-! ## What each buffer holds after point `n` -/

/-- The first point of the batch position `n` is in. -/
def head0 (n : ℕ) (hn : n < cfg0.N) : Fin cfg0.N := ⟨4 * (n / 4), by omega⟩
theorem head0_of (t : Fin cfg0.N) (h : t.val % 4 = 0) : head0 t.val t.isLt = t := Fin.ext (by simp only [head0]; omega)
theorem head0_pred (n : ℕ) (hn : n < cfg0.N) (h : ¬n % 4 = 0) (h' : n - 1 < cfg0.N) : head0 (n - 1) h' = head0 n hn :=
  Fin.ext (by simp only [head0]; omega)

/-- The batch's positions, -/
def posAt (c : Dev nD) (n : ℕ) (hn : n < cfg0.N) : Vec F S1x2x256 .i32 := posBlk (iblk m c 0 (head0 n hn))
/-- keep flags, -/
def keepAt (c : Dev nD) (n : ℕ) (hn : n < cfg0.N) : Vec F S1x2x256 .i32 := keepBlk (iblk m c 0 (head0 n hn))
/-- combine weights, -/
def combAt (c : Dev nD) (n : ℕ) (hn : n < cfg0.N) : Vec F S1x2x256 .f32 := combBlk (iblk m c 0 (head0 n hn)) (iblk m c 1 (head0 n hn))
/-- selection matrix, -/
def selAt (c : Dev nD) (n : ℕ) (hn : n < cfg0.N) : Vec F S512x640 .fp8e4m3 := selMat (iblk m c 0 (head0 n hn)) (iblk m c 1 (head0 n hn)) (iblk m c 2 (head0 n hn))
/-- and spread weights. -/
def wAt (c : Dev nD) (n : ℕ) (hn : n < cfg0.N) : Vec F S2x256x128 .f32 := wMat (iblk m c 0 (head0 n hn)) (iblk m c 1 (head0 n hn)) (iblk m c 2 (head0 n hn))

theorem selAt_pred (c : Dev nD) (n : ℕ) (hn : n < cfg0.N) (h : ¬n % 4 = 0) (h' : n - 1 < cfg0.N) : selAt m c (n - 1) h' = selAt m c n hn := by
  unfold selAt; rw [head0_pred n hn h h']
theorem wAt_pred (c : Dev nD) (n : ℕ) (hn : n < cfg0.N) (h : ¬n % 4 = 0) (h' : n - 1 < cfg0.N) : wAt m c (n - 1) h' = wAt m c n hn := by
  unfold wAt; rw [head0_pred n hn h h']

/-- The invariant: before the first point the scratch at anything, later at the batch's matrices. -/
def PhiS (c : Dev nD) : (n : ℕ) → n ≤ cfg0.N → sProp 𝕄
  | 0, _ => Pipeline.ΦA spec0 c
  | n + 1, hn => iprop(iprop(owns (c : Thread nD τ) scM0_0 fullShare (selAt m c n hn) ∗ owns (c : Thread nD τ) scM0_1 fullShare (wAt m c n hn)) ∗ (∃ r, prngReg c r))
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (selAt m c n hn) ∗ owns (c : Thread nD τ) scM0_1 fullShare (wAt m c n hn)) ∗ (∃ r, prngReg c r)) := rfl
theorem PhiS_pos (c : Dev nD) (n : ℕ) (h : n ≤ cfg0.N) (hz : n ≠ 0) :
    PhiS m c n h = iprop(iprop(owns (c : Thread nD τ) scM0_0 fullShare (selAt m c (n - 1) (by omega)) ∗ owns (c : Thread nD τ) scM0_1 fullShare (wAt m c (n - 1) (by omega))) ∗ (∃ r, prngReg c r)) := by
  cases n with
  | zero => exact absurd rfl hz
  | succ n => rfl

/-- The proof data: arrays as the region finds them; after each point the inputs' buffers at their blocks, the y buffer
    at the point's block of y, the routing outputs' buffers at the batch's routing. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yBlk (iblk m c 3 t) (selAt m c t.val t.isLt) (wAt m c t.val t.isLt)
    | ⟨5, _⟩ => combAt m c t.val t.isLt
    | ⟨6, _⟩ => posAt m c t.val t.isLt
    | ⟨7, _⟩ => keepAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = yBlk (iblk m c 3 t) (selAt m c t.val t.isLt) (wAt m c t.val t.isLt) := by dsimp only [dats]
theorem after0_5 (c : Dev nD) (t : Fin cfg0.N) : (dats m 0 c).after 5 t = combAt m c t.val t.isLt := by dsimp only [dats]
theorem after0_6 (c : Dev nD) (t : Fin cfg0.N) : (dats m 0 c).after 6 t = posAt m c t.val t.isLt := by dsimp only [dats]
theorem after0_7 (c : Dev nD) (t : Fin cfg0.N) : (dats m 0 c).after 7 t = keepAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The routing outputs keep their contents through a batch -/

theorem comb_pred (c : Dev nD) (t : Fin cfg0.N) (h0 : ¬t.val % 4 = 0) (h') : combAt m c (t.val - 1) h' = combAt m c t.val t.isLt := by
  unfold combAt; rw [head0_pred t.val t.isLt h0 h']
theorem hcarry5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  rw [after0_5, after0_5]
  by_cases h0 : t.val % 4 = 0
  · rw [live5_A t ((hcond0_0 t).mpr h0)] at hi; exact absurd hi Bool.false_ne_true
  · exact (comb_pred m c t h0 _).symm
/-- At a later point of a batch the buffer holds the batch's contents on entry, -/
theorem before5_B (c : Dev nD) (t : Fin cfg0.N) (h0 : ¬t.val % 4 = 0) (d) : (dats m 0 c).before 5 t d = combAt m c t.val t.isLt := by
  rw [Dat.before_out_traj _ 5 rfl (fun _ _ => rfl) (hcarry5 m c) t.val t rfl d,
    if_neg (by rw [notFresh5_B t (fun h => h0 ((hcond0_0 t).mp h))]; exact Bool.false_ne_true)]
  rw [after0_5]; exact comb_pred m c t h0 _
/-- and the body, which leaves it alone, hands it back. -/
theorem leaves5_B (c : Dev nD) (t : Fin cfg0.N) (h0 : ¬t.val % 4 = 0) :
    (owns (c : Thread nD τ) (ms0_5 t) fullShare (combAt m c t.val t.isLt) : sProp 𝕄) ⊢ (dats m 0 c).leavesExact 5 t := by
  unfold Dat.leavesExact
  rw [idle5_B t (fun h => h0 ((hcond0_0 t).mp h))]
  cases hf : (cfg0.win 5).flush t
  · dsimp only
    iintro H
    iexists (combAt m c t.val t.isLt)
    rw [before5_B m c t h0]
    iexact H
  · dsimp only
    rw [after0_5]

theorem pos_pred (c : Dev nD) (t : Fin cfg0.N) (h0 : ¬t.val % 4 = 0) (h') : posAt m c (t.val - 1) h' = posAt m c t.val t.isLt := by
  unfold posAt; rw [head0_pred t.val t.isLt h0 h']
theorem hcarry6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  rw [after0_6, after0_6]
  by_cases h0 : t.val % 4 = 0
  · rw [live6_A t ((hcond0_0 t).mpr h0)] at hi; exact absurd hi Bool.false_ne_true
  · exact (pos_pred m c t h0 _).symm
/-- At a later point of a batch the buffer holds the batch's contents on entry, -/
theorem before6_B (c : Dev nD) (t : Fin cfg0.N) (h0 : ¬t.val % 4 = 0) (d) : (dats m 0 c).before 6 t d = posAt m c t.val t.isLt := by
  rw [Dat.before_out_traj _ 6 rfl (fun _ _ => rfl) (hcarry6 m c) t.val t rfl d,
    if_neg (by rw [notFresh6_B t (fun h => h0 ((hcond0_0 t).mp h))]; exact Bool.false_ne_true)]
  rw [after0_6]; exact pos_pred m c t h0 _
/-- and the body, which leaves it alone, hands it back. -/
theorem leaves6_B (c : Dev nD) (t : Fin cfg0.N) (h0 : ¬t.val % 4 = 0) :
    (owns (c : Thread nD τ) (ms0_6 t) fullShare (posAt m c t.val t.isLt) : sProp 𝕄) ⊢ (dats m 0 c).leavesExact 6 t := by
  unfold Dat.leavesExact
  rw [idle6_B t (fun h => h0 ((hcond0_0 t).mp h))]
  cases hf : (cfg0.win 6).flush t
  · dsimp only
    iintro H
    iexists (posAt m c t.val t.isLt)
    rw [before6_B m c t h0]
    iexact H
  · dsimp only
    rw [after0_6]

theorem keep_pred (c : Dev nD) (t : Fin cfg0.N) (h0 : ¬t.val % 4 = 0) (h') : keepAt m c (t.val - 1) h' = keepAt m c t.val t.isLt := by
  unfold keepAt; rw [head0_pred t.val t.isLt h0 h']
theorem hcarry7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  rw [after0_7, after0_7]
  by_cases h0 : t.val % 4 = 0
  · rw [live7_A t ((hcond0_0 t).mpr h0)] at hi; exact absurd hi Bool.false_ne_true
  · exact (keep_pred m c t h0 _).symm
/-- At a later point of a batch the buffer holds the batch's contents on entry, -/
theorem before7_B (c : Dev nD) (t : Fin cfg0.N) (h0 : ¬t.val % 4 = 0) (d) : (dats m 0 c).before 7 t d = keepAt m c t.val t.isLt := by
  rw [Dat.before_out_traj _ 7 rfl (fun _ _ => rfl) (hcarry7 m c) t.val t rfl d,
    if_neg (by rw [notFresh7_B t (fun h => h0 ((hcond0_0 t).mp h))]; exact Bool.false_ne_true)]
  rw [after0_7]; exact keep_pred m c t h0 _
/-- and the body, which leaves it alone, hands it back. -/
theorem leaves7_B (c : Dev nD) (t : Fin cfg0.N) (h0 : ¬t.val % 4 = 0) :
    (owns (c : Thread nD τ) (ms0_7 t) fullShare (keepAt m c t.val t.isLt) : sProp 𝕄) ⊢ (dats m 0 c).leavesExact 7 t := by
  unfold Dat.leavesExact
  rw [idle7_B t (fun h => h0 ((hcond0_0 t).mp h))]
  cases hf : (cfg0.win 7).flush t
  · dsimp only
    iintro H
    iexists (keepAt m c t.val t.isLt)
    rw [before7_B m c t h0]
    iexact H
  · dsimp only
    rw [after0_7]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 6400000 in
/-- The body at a batch's first point. -/
theorem sound_A (c : Dev nD) (t : Fin cfg0.N) (h0 : t.val % 4 = 0)
    (hΦ : PhiS m c t.val (Nat.le_of_lt t.isLt) ⊢ Pipeline.ΦA spec0 c) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [PhiS_castSucc m c t]
  rw [PhiA0_eq] at hΦ
  rw [show (dats m 0 c).leavesExact 0 t = owns (c : Thread nD τ) (ms0_0 t) fullShare ((dats m 0 c).after 0 t) from by
    unfold Dat.leavesExact; rw [live0 t], after0_0]
  rw [show (dats m 0 c).leavesExact 1 t = owns (c : Thread nD τ) (ms0_1 t) fullShare ((dats m 0 c).after 1 t) from by
    unfold Dat.leavesExact; rw [live1 t], after0_1]
  rw [show (dats m 0 c).leavesExact 2 t = owns (c : Thread nD τ) (ms0_2 t) fullShare ((dats m 0 c).after 2 t) from by
    unfold Dat.leavesExact; rw [live2 t], after0_2]
  rw [show (dats m 0 c).leavesExact 3 t = owns (c : Thread nD τ) (ms0_3 t) fullShare ((dats m 0 c).after 3 t) from by
    unfold Dat.leavesExact; rw [live3 t], after0_3]
  rw [show (dats m 0 c).leavesExact 4 t = owns (c : Thread nD τ) (ms0_4 t) fullShare ((dats m 0 c).after 4 t) from by
    unfold Dat.leavesExact; rw [live4 t], after0_4]
  rw [show (dats m 0 c).leavesExact 5 t = owns (c : Thread nD τ) (ms0_5 t) fullShare ((dats m 0 c).after 5 t) from by
    unfold Dat.leavesExact; rw [live5_A t ((hcond0_0 t).mpr h0)], after0_5]
  rw [show (dats m 0 c).leavesExact 6 t = owns (c : Thread nD τ) (ms0_6 t) fullShare ((dats m 0 c).after 6 t) from by
    unfold Dat.leavesExact; rw [live6_A t ((hcond0_0 t).mpr h0)], after0_6]
  rw [show (dats m 0 c).leavesExact 7 t = owns (c : Thread nD τ) (ms0_7 t) fullShare ((dats m 0 c).after 7 t) from by
    unfold Dat.leavesExact; rw [live7_A t ((hcond0_0 t).mpr h0)], after0_7]
  unfold combAt posAt keepAt selAt wAt
  rw [head0_of t h0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HΦ := hΦ $$ HΦ
  icases HΦ with ⟨⟨HS0, HS1⟩, Hg⟩
  iapply ((runA c (grid0.coords t) _ _ _ _ _ _ _ _ _ _ _ _ _ _ _ _ _ _ _ _ ((hcond0_0 t).mpr h0) (iblk m c 0 t) (iblk m c 1 t) (iblk m c 2 t) (iblk m c 3 t)).2.2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, ⟨%e4, H4⟩, ⟨%e5, H5⟩, ⟨%e6, H6⟩, ⟨%e7, H7⟩, ⟨%es0, HS0⟩, ⟨%es1, HS1⟩⟩
  isplitl [HS0 HS1 Hg]
  · isplitl [HS0 HS1]
    · isplitl [HS0]
      · unfold owns; iexists _; isplitr
        swap; · iexact HS0
        ipureintro; exact read_of_pieces _ _ (runA_sel ..) (selCover _ _ _)
      unfold owns; iexists _; isplitr
      swap; · iexact HS1
      ipureintro; exact read_of_pieces _ _ (runA_w ..) (wCover _ _ _)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact read_of_pieces _ _ (runA_y ..) (yCover _ _ _)
  isplitl [H5]
  · unfold owns; iexists _; isplitr
    swap; · iexact H5
    ipureintro; exact read_of_pieces _ _ (runA_comb ..) (combCover _ _)
  isplitl [H6]
  · unfold owns; iexists _; isplitr
    swap; · iexact H6
    ipureintro; exact read_of_pieces _ _ (runA_pos ..) (posCover _)
  unfold owns; iexists _; isplitr
  swap; · iexact H7
  ipureintro; exact read_of_pieces _ _ (runA_keep ..) (keepCover _)

set_option maxHeartbeats 6400000 in
/-- The body at a later point of a batch. -/
theorem sound_B (c : Dev nD) (t : Fin cfg0.N) (h0 : ¬t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before5_B m c t h0, before6_B m c t h0, before7_B m c t h0]
  rw [show (dats m 0 c).owesAt () t.succ = (dats m 0 c).owesAt () t.castSucc from rfl]
  rw [show (dats m 0 c).Φ t.succ = PhiS m c (t.val + 1) t.isLt from rfl, PhiS_succ]
  have hz : t.val ≠ 0 := fun h => h0 (by rw [h])
  rw [PhiS_castSucc m c t, PhiS_pos m c _ _ hz, selAt_pred m c t.val t.isLt h0, wAt_pred m c t.val t.isLt h0]
  rw [show (dats m 0 c).leavesExact 0 t = owns (c : Thread nD τ) (ms0_0 t) fullShare ((dats m 0 c).after 0 t) from by
    unfold Dat.leavesExact; rw [live0 t], after0_0]
  rw [show (dats m 0 c).leavesExact 1 t = owns (c : Thread nD τ) (ms0_1 t) fullShare ((dats m 0 c).after 1 t) from by
    unfold Dat.leavesExact; rw [live1 t], after0_1]
  rw [show (dats m 0 c).leavesExact 2 t = owns (c : Thread nD τ) (ms0_2 t) fullShare ((dats m 0 c).after 2 t) from by
    unfold Dat.leavesExact; rw [live2 t], after0_2]
  rw [show (dats m 0 c).leavesExact 3 t = owns (c : Thread nD τ) (ms0_3 t) fullShare ((dats m 0 c).after 3 t) from by
    unfold Dat.leavesExact; rw [live3 t], after0_3]
  rw [show (dats m 0 c).leavesExact 4 t = owns (c : Thread nD τ) (ms0_4 t) fullShare ((dats m 0 c).after 4 t) from by
    unfold Dat.leavesExact; rw [live4 t], after0_4]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB c (grid0.coords t) _ _ _ _ _ _ _ _ _ _ _ _ _ _ _ _ _ _ _ _ (fun h => h0 ((hcond0_0 t).mp h)) (iblk m c 0 t) (iblk m c 1 t) (iblk m c 2 t) (iblk m c 3 t) (selAt m c t.val t.isLt) (wAt m c t.val t.isLt)).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%e4, H4⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact read_of_pieces _ _ (runB_y ..) (yCover _ _ _)
  isplitl [H5]
  · iapply (leaves5_B m c t h0); iexact H5
  isplitl [H6]
  · iapply (leaves6_B m c t h0); iexact H6
  iapply (leaves7_B m c t h0); iexact H7

/-- The invariant at any point is at least what the launch hands the region. -/
theorem PhiS_weaken (c : Dev nD) (n : ℕ) (h : n ≤ cfg0.N) : PhiS m c n h ⊢ Pipeline.ΦA spec0 c := by
  by_cases hz : n = 0
  · rw [PhiS_zero m c n h hz]
    try exact Idealize.SL.BI.Entails.refl _
  rw [PhiS_pos m c _ _ hz, PhiA0_eq]
  iintro ⟨⟨HS0, HS1⟩, Hg⟩
  isplitl [HS0 HS1]
  · isplitl [HS0]
    · iexists _; iexact HS0
    iexists _; iexact HS1
  iexact Hg

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_A m c t h0 (PhiS_weaken m c _ _)
  · exact sound_B m c t h0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point it gives that back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_weaken m c _ _

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every weakly fair execution terminates with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.Kern.SameText.lean ====
/- The kernel and its ideal reading are one text: whatever is proved of the one at every interpretation of the float
   formats is proved of the other. Here: the frame. -/
module

public import proofs.«01_k».proof.Proof.Gen.Kernel
public import proofs.«01_k».proof.Proof.Kern.State

@[expose] public section

noncomputable section

namespace Cert.SameText

open Idealize.ShloMosaic Idealize.ShloMosaic.TcCoe Idealize.SL.Sem

variable {F : FTy → Type} [FloatOps F]

/-- The bodies agree at every label (there is one). -/
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

/-- The pipelines agree. -/
theorem pcfgs_eq : Cert.Kernel.pcfgs (F := F) = Cert.KernelIdeal.pcfgs (F := F) := rfl

/-- The programs behind the labels agree, the pipelines' own included. -/
theorem defs_eq : Cert.Kernel.defs (F := F) = Cert.KernelIdeal.defs (F := F) :=
  congrArg (Pipeline.defs (Cert.KernelIdeal.pcfgs (F := F))) (defs₀_eq (F := F))

/-- The host programs agree. -/
theorem main_eq : Cert.Kernel.main (F := F) = Cert.KernelIdeal.main (F := F) := rfl

/-- The frame of the kernel: every weakly fair execution terminates with the arguments unchanged and every counter at
    zero. -/
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  rw [defs_eq, main_eq]
  exact Cert.KernelIdeal.Hand.frame m ρ

end Cert.SameText

end
-- ==== Proof.InRange.lean ====
/- The precondition, decoded: every expert id is a number below ten. -/
module

public import proofs.«01_k».proof.Pre_experts_in_range
public import Idealize.ShloMosaic.Lib.Pointwise
public import Idealize.ShloMosaic.Lib.StableHlo.Predicate

@[expose] public section

noncomputable section

namespace Cert.InRange

open Cert.Pre_experts_in_range Idealize.ShloMosaic

/-- A scalar spreads to any shape. -/
instance facts : Cert.Pre_experts_in_range.Facts where
  bcast_S_S6x256x2 := by decide +kernel

/-- A word at least zero and below ten, as signed numbers, is below ten. -/
theorem word_lt (w : BitVec 32) (h : IntOp.andi (IntOp.cmpi .sge w 0#32) (IntOp.cmpi .slt w 10#32) = 1#1) : w.toNat < 10 := by
  have h1 : IntOp.cmpi .sge w 0#32 = 1#1 := by
    by_contra hc; rw [ValueIdx.eq_zero_of_ne_one hc] at h; revert h; generalize IntOp.cmpi .slt w 10#32 = b; revert b; decide
  have h2 : IntOp.cmpi .slt w 10#32 = 1#1 := by
    by_contra hc; rw [ValueIdx.eq_zero_of_ne_one hc] at h; revert h; generalize IntOp.cmpi .sge w 0#32 = b; revert b; decide
  have h3 : (0 : Int) ≤ w.toInt := by
    have h := h1
    simp only [IntOp.cmpi] at h
    by_contra hc
    simp [BitVec.sle, BitVec.slt, hc] at h
  have h4 : w.toInt < 10 := by
    have h := h2
    simp only [IntOp.cmpi] at h
    by_contra hc
    simp [BitVec.sle, BitVec.slt, hc] at h
  rw [BitVec.toInt_eq_toNat_cond] at h3 h4
  split at h3 <;> omega

/-- Where the predicate is all ones, the ids are below ten. -/
theorem ids_lt (a : IVec S6x256x2 32) (b : FVec Ideal S6x256x2 .f32) (c : FVec Ideal S6x10x64x6144 .fp8e4m3) (d : FVec Ideal S6x10x64 .f32)
    (h : fn (F := Ideal) a b c d = fun _ => 1#1) (i : S6x256x2.Idx) : (a i).toNat < 10 :=
  word_lt (a i) (congrFun h i)

end Cert.InRange

end
-- ==== Proof.Kern.Entry.lean ====
/- The kernel's blocks, in terms of the arguments. -/
module

public import proofs.«01_k».proof.Proof.Kern.State
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

theorem index0 (t : Fin cfg0.N) : win0_0.index t = ![t.val / 4, 0, 0] := (by decide +kernel : ∀ t : Fin grid0.N, win0_0.index t = ![t.val / 4, 0, 0]) t
theorem index1 (t : Fin cfg0.N) : win0_1.index t = ![t.val / 4, 0, 0] := (by decide +kernel : ∀ t : Fin grid0.N, win0_1.index t = ![t.val / 4, 0, 0]) t
theorem index2 (t : Fin cfg0.N) : win0_2.index t = ![t.val / 4, 0, 0] := (by decide +kernel : ∀ t : Fin grid0.N, win0_2.index t = ![t.val / 4, 0, 0]) t
theorem index3 (t : Fin cfg0.N) : win0_3.index t = ![t.val / 4, 0, 0, t.val % 4] := (by decide +kernel : ∀ t : Fin grid0.N, win0_3.index t = ![t.val / 4, 0, 0, t.val % 4]) t
theorem index4 (t : Fin cfg0.N) : win0_4.index t = ![t.val / 4, 0, t.val % 4] := (by decide +kernel : ∀ t : Fin grid0.N, win0_4.index t = ![t.val / 4, 0, t.val % 4]) t
theorem index5 (t : Fin cfg0.N) : win0_5.index t = ![t.val / 4, 0, 0] := (by decide +kernel : ∀ t : Fin grid0.N, win0_5.index t = ![t.val / 4, 0, 0]) t
theorem index6 (t : Fin cfg0.N) : win0_6.index t = ![t.val / 4, 0, 0] := (by decide +kernel : ∀ t : Fin grid0.N, win0_6.index t = ![t.val / 4, 0, 0]) t
theorem index7 (t : Fin cfg0.N) : win0_7.index t = ![t.val / 4, 0, 0] := (by decide +kernel : ∀ t : Fin grid0.N, win0_7.index t = ![t.val / 4, 0, 0]) t

theorem batch_lt (t : Fin cfg0.N) : t.val / 4 < 6 := by
  have h : t.val < 24 := t.isLt
  omega

/-- The batch of a grid point. -/
def batch (t : Fin cfg0.N) : Fin 6 := ⟨t.val / 4, batch_lt t⟩

/-- A batch's ids, choices first. -/
def idsB (E : IVec S6x256x2 32) (b : Fin 6) : Vec Ideal S1x2x256 .i32 := fun i => E (ix3 b (i 2) (i 1))
/-- A batch's gates, choices first. -/
def gatesB (g : FVec Ideal S6x256x2 .f32) (b : Fin 6) : Vec Ideal S1x2x256 .f32 := fun i => g (ix3 b (i 2) (i 1))
/-- A batch's scales. -/
def scaleB (s : FVec Ideal S6x10x64 .f32) (b : Fin 6) : Vec Ideal S1x10x64 .f32 := fun i => s (ix3 b (i 1) (i 2))
/-- A batch's codes, one quarter of the columns. -/
def codesB (q : FVec Ideal S6x10x64x6144 .fp8e4m3) (b : Fin 6) (d : Fin 4) : Vec Ideal S1x10x64x1536 .fp8e4m3 := fun i =>
  q (ix4 b (i 1) (i 2) ⟨1536 * d.val + (i 3).val, by have h : (i 3).val < 1536 := (i 3).isLt; omega⟩)

/-- The transposed ids, -/
theorem V_main_v0 (c : Dev nD) : V m c main_v0
    = (fun i => m ((c : Thread nD τ).loc main_arg0) (ix3 (i 0) (i 2) (i 1)) : IVec S6x2x256 32) := by
  funext i
  show V0 m c main_v0 _ = _
  simp only [V0, hostOps0, List.flatten_cons, List.flatten_nil, List.append_nil, List.cons_append, List.nil_append]
  after_results
  idx_vars i
  pointwise

/-- and the transposed gates. -/
theorem V_main_v1 (c : Dev nD) : V m c main_v1
    = (fun i => m ((c : Thread nD τ).loc main_arg1) (ix3 (i 0) (i 2) (i 1)) : FVec Ideal S6x2x256 .f32) := by
  funext i
  show V0 m c main_v1 _ = _
  simp only [V0, hostOps0, List.flatten_cons, List.flatten_nil, List.append_nil, List.cons_append, List.nil_append]
  after_results
  idx_vars i
  pointwise

theorem entry0 (c : Dev nD) (t : Fin cfg0.N) : iblk m c 0 t = idsB (m ((c : Thread nD τ).loc main_arg0)) (batch t) := by
  funext x
  blk_simp [iblk]
  show V m c main_v0 _ = _
  rw [V_main_v0]
  refine congrArg (m ((c : Thread nD τ).loc main_arg0)) ?_
  blk_ext [index0, batch]

theorem entry1 (c : Dev nD) (t : Fin cfg0.N) : iblk m c 1 t = gatesB (m ((c : Thread nD τ).loc main_arg1)) (batch t) := by
  funext x
  blk_simp [iblk]
  show V m c main_v1 _ = _
  rw [V_main_v1]
  refine congrArg (m ((c : Thread nD τ).loc main_arg1)) ?_
  blk_ext [index1, batch]

theorem entry2 (c : Dev nD) (t : Fin cfg0.N) : iblk m c 2 t = scaleB (m ((c : Thread nD τ).loc main_arg3)) (batch t) := by
  funext x
  blk_simp [iblk]
  show V m c main_arg3 _ = _
  rw [V_main_arg3]
  refine congrArg (m ((c : Thread nD τ).loc main_arg3)) ?_
  blk_ext [index2, batch]

theorem entry3 (c : Dev nD) (t : Fin cfg0.N) : iblk m c 3 t = codesB (m ((c : Thread nD τ).loc main_arg2)) (batch t) ⟨t.val % 4, Nat.mod_lt _ (by decide)⟩ := by
  funext x
  blk_simp [iblk]
  show V m c main_arg2 _ = _
  rw [V_main_arg2]
  refine congrArg (m ((c : Thread nD τ).loc main_arg2)) ?_
  blk_ext [index3, batch]

theorem batch_head0 (t : Fin cfg0.N) : batch (head0 t.val t.isLt) = batch t := Fin.ext (by simp only [head0, batch]; omega)

/-! ## The result arrays of the pipelined region -/

/-- The positions, choices first. -/
def posArr (E : IVec S6x256x2 32) : IVec S6x2x256 32 := fun i => posBlk (F := Ideal) (idsB E (i 0)) (ix3 0 (i 1) (i 2))
/-- The keep flags, choices first. -/
def keepArr (E : IVec S6x256x2 32) : IVec S6x2x256 32 := fun i => keepBlk (F := Ideal) (idsB E (i 0)) (ix3 0 (i 1) (i 2))
/-- The combine weights, choices first. -/
def combArr (E : IVec S6x256x2 32) (g : FVec Ideal S6x256x2 .f32) : FVec Ideal S6x2x256 .f32 := fun i => combBlk (idsB E (i 0)) (gatesB g (i 0)) (ix3 0 (i 1) (i 2))

theorem arrRef_inj : Function.Injective (Pipeline.arrRef spec0) := by decide

/-- The positions, -/
theorem final_pos (c : Dev nD) : (dats m 0 c).arrAt 6 cfg0.N
    = posArr (m ((c : Thread nD τ).loc main_arg0)) := by
  refine (dats m 0 c).arrAt_eq_of_covers 6 _ (by decide +kernel) fun t hf y => ?_
  blk_simp
  rw [after0_6, posAt, entry0, batch_head0]
  have e0 : (win0_6.blk t).view.emb y 0 = batch t := by
    refine Fin.ext ?_
    blk_simp [index6, batch]
  unfold posArr
  rw [e0]
  refine congrArg (posBlk _) ?_
  blk_ext [index6]

/-- the keep flags, -/
theorem final_keep (c : Dev nD) : (dats m 0 c).arrAt 7 cfg0.N
    = keepArr (m ((c : Thread nD τ).loc main_arg0)) := by
  refine (dats m 0 c).arrAt_eq_of_covers 7 _ (by decide +kernel) fun t hf y => ?_
  blk_simp
  rw [after0_7, keepAt, entry0, batch_head0]
  have e0 : (win0_7.blk t).view.emb y 0 = batch t := by
    refine Fin.ext ?_
    blk_simp [index7, batch]
  unfold keepArr
  rw [e0]
  refine congrArg (keepBlk _) ?_
  blk_ext [index7]

/-- the combine weights -/
theorem final_comb (c : Dev nD) : (dats m 0 c).arrAt 5 cfg0.N
    = combArr (m ((c : Thread nD τ).loc main_arg0)) (m ((c : Thread nD τ).loc main_arg1)) := by
  refine (dats m 0 c).arrAt_eq_of_covers 5 _ (by decide +kernel) fun t hf y => ?_
  blk_simp
  rw [after0_5, combAt, entry0, entry1, batch_head0]
  have e0 : (win0_5.blk t).view.emb y 0 = batch t := by
    refine Fin.ext ?_
    blk_simp [index5, batch]
  unfold combArr
  rw [e0]
  refine congrArg (combBlk _ _) ?_
  blk_ext [index5]

/-- A batch's selection matrix and spread weights applied to one quarter of its codes. -/
def yQuarter (E : IVec S6x256x2 32) (g : FVec Ideal S6x256x2 .f32) (q : FVec Ideal S6x10x64x6144 .fp8e4m3) (s : FVec Ideal S6x10x64 .f32)
    (b : Fin 6) (d : Fin 4) : Vec Ideal S1x256x1536 .bf16 :=
  yBlk (codesB q b d) (selMat (idsB E b) (gatesB g b) (scaleB s b)) (wMat (idsB E b) (gatesB g b) (scaleB s b))

/-- The array of combined rows. -/
def yArr (E : IVec S6x256x2 32) (g : FVec Ideal S6x256x2 .f32) (q : FVec Ideal S6x10x64x6144 .fp8e4m3) (s : FVec Ideal S6x10x64 .f32) :
    FVec Ideal S6x256x6144 .bf16 := fun i =>
  yQuarter E g q s (i 0) ⟨(i 2).val / 1536, by have h : (i 2).val < 6144 := (i 2).isLt; omega⟩
    (ix3 0 (i 1) ⟨(i 2).val % 1536, Nat.mod_lt _ (by decide)⟩)

theorem yArr_of (E : IVec S6x256x2 32) (g : FVec Ideal S6x256x2 .f32) (q : FVec Ideal S6x10x64x6144 .fp8e4m3) (s : FVec Ideal S6x10x64 .f32)
    (i : S6x256x6144.Idx) (b : Fin 6) (d : Fin 4) (y : S1x256x1536.Idx) (h0 : (i 0).val = b.val) (h1 : (i 1).val = (y 1).val)
    (h2 : (i 2).val = d.val * 1536 + (y 2).val) : yArr E g q s i = yQuarter E g q s b d y := by
  have hy : (y 2).val < 1536 := (y 2).isLt
  have hz : (y 0).val < 1 := (y 0).isLt
  obtain rfl : i 0 = b := Fin.ext h0
  have hd : (⟨(i 2).val / 1536, by have h : (i 2).val < 6144 := (i 2).isLt; omega⟩ : Fin 4) = d := Fin.ext (by show (i 2).val / 1536 = d.val; omega)
  show yQuarter E g q s (i 0) ⟨(i 2).val / 1536, _⟩ _ = _
  rw [hd]
  refine congrArg (yQuarter E g q s (i 0) d) (funext fun a => Fin.ext ?_)
  match a with
  | ⟨0, _⟩ => show 0 = (y 0).val; omega
  | ⟨1, _⟩ => exact h1
  | ⟨2, _⟩ => show (i 2).val % 1536 = (y 2).val; omega

/-- and the combined rows. -/
theorem final_y (c : Dev nD) : (dats m 0 c).arrAt 4 cfg0.N = yArr (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, selAt, wAt, entry0, entry1, entry2, entry3, batch_head0]
  refine (yArr_of _ _ _ _ _ (batch t) ⟨t.val % 4, Nat.mod_lt _ (by decide)⟩ y ?_ ?_ ?_).symm
  · blk_simp [index4, batch]
  · blk_simp [index4]
  · blk_simp [index4]

/-! ## The results the host leaves after the region -/

theorem W_main_v3 (c : Dev nD) : Pipeline.afterTail₀ cfgs (dats m) 0 (V0 m) [hostOps1] c main_v3
    = (fun i => combArr (m ((c : Thread nD τ).loc main_arg0)) (m ((c : Thread nD τ).loc main_arg1)) (ix3 (i 0) (i 2) (i 1)) : FVec Ideal S6x256x2 .f32) := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.devRef .tc main_v2_1) = combArr (m ((c : Thread nD τ).loc main_arg0)) (m ((c : Thread nD τ).loc main_arg1))
    from (Pipeline.withArrays_arr spec0 arrRef_inj c (V0 m c) (fun w => (dats m 0 c).arrAt w cfg0.N) 5).trans (final_comb m c)]
  funext (i : S6x256x2.Idx)
  idx_vars i
  pointwise

theorem W_main_v4 (c : Dev nD) : Pipeline.afterTail₀ cfgs (dats m) 0 (V0 m) [hostOps1] c main_v4
    = (fun i => posArr (m ((c : Thread nD τ).loc main_arg0)) (ix3 (i 0) (i 2) (i 1)) : IVec S6x256x2 32) := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.devRef .tc main_v2_2) = posArr (m ((c : Thread nD τ).loc main_arg0))
    from (Pipeline.withArrays_arr spec0 arrRef_inj c (V0 m c) (fun w => (dats m 0 c).arrAt w cfg0.N) 6).trans (final_pos m c)]
  funext (i : S6x256x2.Idx)
  idx_vars i
  pointwise

theorem W_main_v8 (c : Dev nD) : Pipeline.afterTail₀ cfgs (dats m) 0 (V0 m) [hostOps1] c main_v8
    = (fun i => IntOp.cmpi .ne (keepArr (m ((c : Thread nD τ).loc main_arg0)) (ix3 (i 0) (i 2) (i 1))) 0#32 : IVec S6x256x2 1) := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.devRef .tc main_v2_3) = keepArr (m ((c : Thread nD τ).loc main_arg0))
    from (Pipeline.withArrays_arr spec0 arrRef_inj c (V0 m c) (fun w => (dats m 0 c).arrAt w cfg0.N) 7).trans (final_keep m c)]
  funext (i : S6x256x2.Idx)
  idx_vars i
  simp only [id]
  pointwise

/-- The run of the kernel with its four results named, the arguments unchanged. -/
theorem run : θ_run defs (onTc (τ := τ) (main (F := Ideal))) ⟨m, fun _ => 0, ρ⟩ fun r => ∀ c : Dev nD,
      r.2.mem ((c : Thread nD τ).loc main_v2_0) = yArr (m ((c : Thread nD τ).loc main_arg0)) (m ((c : Thread nD τ).loc main_arg1)) (m ((c : Thread nD τ).loc main_arg2)) (m ((c : Thread nD τ).loc main_arg3))
      ∧ r.2.mem ((c : Thread nD τ).loc main_v3) = (fun i => combArr (m ((c : Thread nD τ).loc main_arg0)) (m ((c : Thread nD τ).loc main_arg1)) (ix3 (i 0) (i 2) (i 1)) : FVec Ideal S6x256x2 .f32)
      ∧ r.2.mem ((c : Thread nD τ).loc main_v4) = (fun i => posArr (m ((c : Thread nD τ).loc main_arg0)) (ix3 (i 0) (i 2) (i 1)) : IVec S6x256x2 32)
      ∧ r.2.mem ((c : Thread nD τ).loc main_v8) = (fun i => IntOp.cmpi .ne (keepArr (m ((c : Thread nD τ).loc main_arg0)) (ix3 (i 0) (i 2) (i 1))) 0#32 : IVec S6x256x2 1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 4).trans (final_y m c),
      ((h.1 c).2 main_v3 (Pipeline.mem_restRefs_of main_v3 (by decide) (by decide))).trans (W_main_v3 m c),
      ((h.1 c).2 main_v4 (Pipeline.mem_restRefs_of main_v4 (by decide) (by decide))).trans (W_main_v4 m c),
      ((h.1 c).2 main_v8 (Pipeline.mem_restRefs_of main_v8 (by decide) (by decide))).trans (W_main_v8 m c),
      h.2 c⟩)
    (θ_run_and (run_main m ρ) (unchanged m ρ))

end Cert.KernelIdeal.Hand

end
-- ==== Proof.Spec.lean ====
/- What both programs compute, in plain numbers: where a token's choice stands in its expert's queue. The ids of one batch
   are a table `e` of numbers: `e s c` is the expert of choice `c` of token `s`. -/
module

public import Idealize.ShloMosaic.Lib.Pointwise
public import Idealize.ShloMosaic.Lib.StableHlo.Predicate

@[expose] public section

namespace Cert.Moe

open Idealize.ShloMosaic

/-- How many of the tokens up to and including `s` have number `x`. -/
def upto (a : Fin 256 → Nat) (x : Nat) (s : Fin 256) : Nat := ∑ t : Fin 256, if t ≤ s ∧ a t = x then 1 else 0

/-- How many tokens have number `x`. -/
def total (a : Fin 256 → Nat) (x : Nat) : Nat := ∑ t : Fin 256, if a t = x then 1 else 0

/-- The rank of a choice in its expert's queue, from one: first choices first, at most 64 of them counted, then second choices. -/
def rank (e : Fin 256 → Fin 2 → Nat) (s : Fin 256) (c : Fin 2) : Nat :=
  upto (fun t => e t c) (e s c) s + if c = 0 then 0 else min (total (fun t => e t 0) (e s c)) 64

/-- The position of a choice, from zero. -/
def place (e : Fin 256 → Fin 2 → Nat) (s : Fin 256) (c : Fin 2) : Nat := rank e s c - 1

/-- The slot it reads: its position, or the last one. -/
def slot (e : Fin 256 → Fin 2 → Nat) (s : Fin 256) (c : Fin 2) : Nat := min (place e s c) 63

theorem upto_pos (a : Fin 256 → Nat) (s : Fin 256) : 1 ≤ upto a (a s) s := by
  unfold upto
  refine le_trans ?_ (Finset.single_le_sum (f := fun t : Fin 256 => if t ≤ s ∧ a t = a s then 1 else 0) (fun _ _ => Nat.zero_le _) (Finset.mem_univ s))
  simp

theorem upto_le (a : Fin 256 → Nat) (x : Nat) (s : Fin 256) : upto a x s ≤ 256 := by
  unfold upto
  refine le_trans (Finset.sum_le_sum (g := fun _ => 1) fun t _ => by split <;> omega) ?_
  simp

theorem total_le (a : Fin 256 → Nat) (x : Nat) : total a x ≤ 256 := by
  unfold total
  refine le_trans (Finset.sum_le_sum (g := fun _ => 1) fun t _ => by split <;> omega) ?_
  simp

theorem upto_last (a : Fin 256 → Nat) (x : Nat) : upto a x 255 = total a x := by
  unfold upto total
  refine Finset.sum_congr rfl fun t _ => ?_
  have : t ≤ (255 : Fin 256) := by rw [Fin.le_def]; show t.val ≤ 255; omega
  simp [this]

theorem rank_first (e : Fin 256 → Fin 2 → Nat) (s : Fin 256) : rank e s 0 = upto (fun t => e t 0) (e s 0) s := by
  unfold rank; rw [if_pos rfl, Nat.add_zero]

theorem rank_second (e : Fin 256 → Fin 2 → Nat) (s : Fin 256) :
    rank e s 1 = upto (fun t => e t 1) (e s 1) s + min (total (fun t => e t 0) (e s 1)) 64 := by
  unfold rank; rw [if_neg (by decide)]

theorem rank_pos (e : Fin 256 → Fin 2 → Nat) (s : Fin 256) (c : Fin 2) : 1 ≤ rank e s c :=
  le_trans (upto_pos (fun t => e t c) s) (Nat.le_add_right _ _)

theorem rank_le (e : Fin 256 → Fin 2 → Nat) (s : Fin 256) (c : Fin 2) : rank e s c ≤ 320 := by
  have := upto_le (fun t => e t c) (e s c) s
  unfold rank; split <;> omega

theorem place_lt (e : Fin 256 → Fin 2 → Nat) (s : Fin 256) (c : Fin 2) : place e s c < 320 := by
  have := rank_le e s c; have := rank_pos e s c; unfold place; omega

theorem slot_lt (e : Fin 256 → Fin 2 → Nat) (s : Fin 256) (c : Fin 2) : slot e s c < 64 := by unfold slot; omega

/-- The word of the position, as a difference of words. -/
theorem word_place (e : Fin 256 → Fin 2 → Nat) (s : Fin 256) (c : Fin 2) :
    BitVec.ofNat 32 (rank e s c) - 1#32 = BitVec.ofNat 32 (place e s c) :=
  StableHlo.Predicate.sub_one_ofNat _ (rank_pos e s c) (by have := rank_le e s c; omega)

/-- The smaller of two small words. -/
theorem minsi_word {a b : Nat} (ha : a < 2 ^ 31) (hb : b < 2 ^ 31) :
    IntOp.minsi (BitVec.ofNat 32 a) (BitVec.ofNat 32 b) = BitVec.ofNat 32 (min a b) := by
  unfold IntOp.minsi
  by_cases h : a < b
  · rw [if_pos (by rw [← StableHlo.Predicate.ofBool_eq_one_iff, StableHlo.Predicate.slt_ofNat_iff a b ha hb]; exact h), Nat.min_eq_left h.le]
  · rw [if_neg (by rw [← StableHlo.Predicate.ofBool_eq_one_iff, StableHlo.Predicate.slt_ofNat_iff a b ha hb]; exact h), Nat.min_eq_right (by omega)]

theorem minsi_place (e : Fin 256 → Fin 2 → Nat) (s : Fin 256) (c : Fin 2) :
    IntOp.minsi (BitVec.ofNat 32 (place e s c)) 63#32 = BitVec.ofNat 32 (slot e s c) :=
  minsi_word (by have := place_lt e s c; omega) (by decide)

/-- Whether the choice fits within the capacity of 64, as a bit. -/
def keepBit (e : Fin 256 → Fin 2 → Nat) (s : Fin 256) (c : Fin 2) : BitVec 1 := IntOp.cmpi .slt (BitVec.ofNat 32 (place e s c)) 64#32

/-- The combine weight: the gate where kept, over the sum of the token's two gates. -/
noncomputable def comb (e : Fin 256 → Fin 2 → Nat) (g : Fin 256 → Fin 2 → EReal) (s : Fin 256) (c : Fin 2) : EReal :=
  Ideal.div (g s c * (Scalar.uitofp (F := Ideal) .f32 (keepBit e s c) : EReal)) (g s 0 + g s 1)

end Cert.Moe
-- ==== Proof.Kern.Counts.lean ====
/- What the kernel counts: how many choices of an expert come no later than a token. -/
module

public import proofs.«01_k».proof.Proof.Kern.Pieces
public import proofs.«01_k».proof.Proof.Spec
public import Idealize.ShloMosaic.Lib.Pointwise

@[expose] public section

set_option maxRecDepth 16384

noncomputable section

namespace Cert.KernelIdeal.Hand

open Cert.KernelIdeal Cert.KernelIdeal.Gen Idealize.ShloMosaic

variable (x0 : Vec Ideal S1x2x256 .i32) (e : Fin 256 → Fin 2 → Nat) (hx : ∀ s k, x0 (ix3 0 k s) = BitVec.ofNat 32 (e s k)) (he : ∀ s k, e s k < 10)

/-- A flag as a number. -/
theorem flag_word (b : BitVec 1) : (FloatOps.sitofp (F := Ideal) .f32 (BitVec.setWidth 32 b) : EReal) = if b = 1#1 then 1 else 0 := by
  show (((BitVec.setWidth 32 b).toInt : ℝ) : EReal) = _
  by_cases h : b = 1#1
  · subst h; rw [if_pos rfl, show (BitVec.setWidth 32 1#1).toInt = 1 from rfl]; norm_num
  · obtain rfl := ValueIdx.eq_zero_of_ne_one h
    rw [if_neg (by decide), show (BitVec.setWidth 32 0#1).toInt = 0 from rfl]; norm_num

theorem eq_word {a b : Nat} (ha : a < 2 ^ 31) (hb : b < 2 ^ 31) : IntOp.cmpi .eq (BitVec.ofNat 32 a) (BitVec.ofNat 32 b) = 1#1 ↔ b = a := by
  rw [StableHlo.Predicate.cmpi_eq_iff]
  constructor
  · intro h
    have := congrArg BitVec.toNat h
    rw [BitVec.toNat_ofNat, BitVec.toNat_ofNat, Nat.mod_eq_of_lt (by omega), Nat.mod_eq_of_lt (by omega)] at this
    exact this.symm
  · rintro rfl; rfl

theorem sle_iff {a b : Nat} (ha : a < 2 ^ 31) (hb : b < 2 ^ 31) : IntOp.cmpi .sle (BitVec.ofNat 32 a) (BitVec.ofNat 32 b) = 1#1 ↔ a ≤ b :=
  StableHlo.Predicate.sle_ofNat_iff a b ha hb

/-- Conversion of a small natural number to a word. -/
theorem fptosi_nat {n : Nat} (h : n < 2 ^ 31) : Ideal.fptosi 32 (n : EReal) = BitVec.ofNat 32 n := by
  rw [← EReal.coe_coe_eq_natCast]
  show BitVec.ofInt 32 (max (-(2 ^ 31 : Nat) : Int) (min ((2 ^ 31 : Nat) - 1 : Int) (if 0 ≤ (n : ℝ) then ⌊(n : ℝ)⌋ else ⌈(n : ℝ)⌉))) = _
  rw [if_pos (Nat.cast_nonneg n), Int.floor_natCast, min_eq_right (by omega), max_eq_right (by omega)]
  exact BitVec.ofInt_natCast 32 n

/-- The f32 pattern of sixty-four. -/
theorem ofBits_64 : Ideal.ofBits .f32 0x42800000#32 = ((64 : Nat) : EReal) := by
  rw [← EReal.coe_coe_eq_natCast]
  simp [Ideal.ofBits, Ideal.ieee, -EReal.coe_mul]; norm_num

section
include hx he

/-- The indicator rows of the first choice, -/
theorem hot0_at (r : Fin 16) (s : Fin 256) : (k0_pay4 (F := Ideal) x0 (ix2 r s) : EReal) = if e s 0 = r.val then 1 else 0 := by
  have h := he s 0
  pointwise [k0_pay4, k0_pay2]
  rw [flag_word, hx]
  exact if_congr (eq_word (by omega) (by omega)) rfl rfl

/-- and of the second. -/
theorem hot1_at (r : Fin 16) (s : Fin 256) : (k0_pay5 (F := Ideal) x0 (ix2 r s) : EReal) = if e s 1 = r.val then 1 else 0 := by
  have h := he s 1
  pointwise [k0_pay5, k0_pay2]
  rw [flag_word, hx]
  exact if_congr (eq_word (by omega) (by omega)) rfl rfl

/-- Both stacked: the first choice's rows, -/
theorem both0_at (r : Fin 16) (s : Fin 256) (hr : r.val < 32) : (k0_pay6 (F := Ideal) x0 (ix2 ⟨r.val, hr⟩ s) : EReal) = if e s 0 = r.val then 1 else 0 := by
  rw [← hot0_at x0 e hx he r s]
  unfold k0_pay6
  generalize k0_pay4 (F := Ideal) x0 = A
  generalize k0_pay5 (F := Ideal) x0 = B
  pointwise

/-- then the second's. -/
theorem both1_at (r : Fin 16) (s : Fin 256) (hr : 16 + r.val < 32) : (k0_pay6 (F := Ideal) x0 (ix2 ⟨16 + r.val, hr⟩ s) : EReal) = if e s 1 = r.val then 1 else 0 := by
  rw [← hot1_at x0 e hx he r s]
  unfold k0_pay6
  generalize k0_pay4 (F := Ideal) x0 = A
  generalize k0_pay5 (F := Ideal) x0 = B
  pointwise

omit hx he in
/-- A sum of products of indicators counts. -/
theorem sum_flags (a : Fin 256 → Nat) (x : Nat) (t : Fin 256) :
    (∑ k : Fin 256, (if a k = x then 1 else 0 : EReal) * FloatOps.sitofp (F := Ideal) .f32
      (BitVec.setWidth 32 (IntOp.cmpi .sle (BitVec.ofNat 32 k.val) (BitVec.ofNat 32 t.val))) : EReal) = (Moe.upto a x t : EReal) := by
  unfold Moe.upto
  rw [Nat.cast_sum]
  refine Finset.sum_congr rfl fun k _ => ?_
  rw [flag_word, if_congr (sle_iff (a := k.val) (b := t.val) (by omega) (by omega)) rfl rfl]
  by_cases h1 : a k = x <;> by_cases h2 : k ≤ t <;> simp [h1, h2, Fin.le_def.symm]

/-- The running counts of the first choice, -/
theorem cum0_at (r : Fin 16) (t : Fin 256) (hr : r.val < 32) : (k0_pay7 (F := Ideal) x0 (ix2 ⟨r.val, hr⟩ t) : EReal) = (Moe.upto (fun t => e t 0) r.val t : EReal) := by
  rw [← sum_flags]
  have h := fun k => both0_at x0 e hx he r k hr
  unfold k0_pay7
  generalize k0_pay6 (F := Ideal) x0 = A at *
  pointwise
  exact Finset.sum_congr rfl fun k _ => congrArg (· * _) (h k)

/-- and of the second. -/
theorem cum1_at (r : Fin 16) (t : Fin 256) (hr : 16 + r.val < 32) : (k0_pay7 (F := Ideal) x0 (ix2 ⟨16 + r.val, hr⟩ t) : EReal) = (Moe.upto (fun t => e t 1) r.val t : EReal) := by
  rw [← sum_flags]
  have h := fun k => both1_at x0 e hx he r k hr
  unfold k0_pay7
  generalize k0_pay6 (F := Ideal) x0 = A at *
  pointwise
  exact Finset.sum_congr rfl fun k _ => congrArg (· * _) (h k)

/-- The capped totals of the first choice. -/
theorem tot_at (r : Fin 16) (t : Fin 256) : (k0_pay8 (F := Ideal) x0 (ix2 r t) : EReal) = ((min (Moe.total (fun t => e t 0) r.val) 64 : Nat) : EReal) := by
  have h := fun k => both0_at x0 e hx he r k (by omega)
  unfold k0_pay8
  generalize k0_pay6 (F := Ideal) x0 = A at *
  pointwise
  rw [Finset.sum_congr rfl fun k _ => h k, ofBits_64]
  have : (∑ k : Fin 256, (if e k 0 = r.val then 1 else 0 : EReal)) = (Moe.total (fun t => e t 0) r.val : EReal) := by
    unfold Moe.total
    rw [Nat.cast_sum]
    exact Finset.sum_congr rfl fun k _ => by split_ifs <;> simp
  rw [this]
  rcases le_total (Moe.total (fun t => e t 0) r.val) 64 with h | h
  · rw [min_eq_left h, min_eq_left (by exact_mod_cast h)]
  · rw [min_eq_right h, min_eq_right (by exact_mod_cast h)]

/-- The first choice's rank, as a word. -/
theorem cnt0_at (t : Fin 256) : cnt0 (F := Ideal) x0 (ix2 0 t) = BitVec.ofNat 32 (Moe.rank e t 0) := by
  have h0 := fun r => hot0_at x0 e hx he r t
  have h1 := fun r => cum0_at x0 e hx he r t (by omega)
  have hb := Moe.rank_le e t 0
  rw [← fptosi_nat (show Moe.rank e t 0 < 2 ^ 31 by omega)]
  unfold cnt0 k0_pay11
  generalize k0_pay4 (F := Ideal) x0 = A at *
  generalize k0_pay7 (F := Ideal) x0 = B at *
  pointwise
  refine congrArg (Ideal.fptosi 32) ?_
  rw [Finset.sum_eq_single (⟨e t 0, by have := he t 0; omega⟩ : Fin 16)]
  · rw [h0, if_pos rfl, one_mul]
    rw [Moe.rank_first]
    exact h1 ⟨e t 0, _⟩
  · intro r _ hr
    rw [h0, if_neg (fun h => hr (Fin.ext h.symm)), zero_mul]
  · intro h; exact absurd (Finset.mem_univ _) h

/-- The second choice's rank, as a word. -/
theorem cnt1_at (t : Fin 256) : cnt1 (F := Ideal) x0 (ix2 0 t) = BitVec.ofNat 32 (Moe.rank e t 1) := by
  have h0 := fun r => hot1_at x0 e hx he r t
  have h1 := fun r => cum1_at x0 e hx he r t (by omega)
  have h2 := fun r => tot_at x0 e hx he r t
  have hb := Moe.rank_le e t 1
  rw [← fptosi_nat (show Moe.rank e t 1 < 2 ^ 31 by omega)]
  unfold cnt1 k0_pay18
  generalize k0_pay5 (F := Ideal) x0 = A at *
  generalize k0_pay7 (F := Ideal) x0 = B at *
  generalize k0_pay8 (F := Ideal) x0 = D at *
  pointwise
  refine congrArg (Ideal.fptosi 32) ?_
  rw [Finset.sum_eq_single (⟨e t 1, by have := he t 1; omega⟩ : Fin 16)]
  · rw [h0, if_pos rfl, one_mul, Moe.rank_second, Nat.cast_add]
    exact congrArg₂ (fun a b : EReal => a + b) (h1 ⟨e t 1, _⟩) (h2 ⟨e t 1, _⟩)
  · intro r _ hr
    rw [h0, if_neg (fun h => hr (Fin.ext h.symm)), zero_mul]
  · intro h; exact absurd (Finset.mem_univ _) h

end

end Cert.KernelIdeal.Hand

end
-- ==== Proof.Kern.Routing.lean ====
/- The kernel's positions, keep flags and combine weights. -/
module

public import proofs.«01_k».proof.Proof.Kern.Counts
public import proofs.«01_k».proof.Proof.Kern.State
public import Idealize.ShloMosaic.Lib.Pipeline.ValueKit

@[expose] public section

set_option maxRecDepth 16384

noncomputable section

namespace Cert.KernelIdeal.Hand

open Cert.KernelIdeal Cert.KernelIdeal.Gen Idealize.ShloMosaic

variable (x0 : Vec Ideal S1x2x256 .i32) (e : Fin 256 → Fin 2 → Nat) (hx : ∀ s k, x0 (ix3 0 k s) = BitVec.ofNat 32 (e s k)) (he : ∀ s k, e s k < 10)

/-- A stored row is the array's row `k`. -/
theorem row_piece {α : EltTy} (p : Vec Ideal S1x1x256 α) (o : Fin 3 → Nat) (k : Fin 2) (ho : o = ![0, k.val, 0])
    (inb : ∀ a, o a + S1x1x256.size a ≤ S1x2x256.size a) (G : S1x2x256.Idx → Elt Ideal α) (h : ∀ s, p (ix3 0 0 s) = G (ix3 0 k s))
    (x : S1x1x256.Idx) : p x = G ((Rect.unit (s := S1x2x256) o S1x1x256.size inb).emb x) := by
  subst ho
  have hx0 : (x 0).val < 1 := (x 0).isLt
  have hx1 : (x 1).val < 1 := (x 1).isLt
  have e1 : x = ix3 0 0 (x 2) := funext fun a => Fin.ext (by
    match a with
    | ⟨0, _⟩ => show (x 0).val = 0; omega
    | ⟨1, _⟩ => show (x 1).val = 0; omega
    | ⟨2, _⟩ => rfl)
  have e2 : (Rect.unit (s := S1x2x256) ![0, k.val, 0] S1x1x256.size inb).emb x = ix3 0 k (x 2) := funext fun a => Fin.ext (by
    match a with
    | ⟨0, _⟩ => show 0 + 1 * (x 0).val = 0; omega
    | ⟨1, _⟩ => show k.val + 1 * (x 1).val = k.val; omega
    | ⟨2, _⟩ => show 0 + 1 * (x 2).val = (x 2).val; omega)
  rw [e2]
  conv_lhs => rw [e1]
  exact h (x 2)

/-- The three blocks, as the routing says. -/
def posSpec : Vec Ideal S1x2x256 .i32 := fun i => BitVec.ofNat 32 (Moe.place e (i 2) (i 1))
def keepSpec : Vec Ideal S1x2x256 .i32 := fun i => BitVec.setWidth 32 (Moe.keepBit e (i 2) (i 1))
def combSpec (x1 : Vec Ideal S1x2x256 .f32) : Vec Ideal S1x2x256 .f32 := fun i => Moe.comb e (fun s k => x1 (ix3 0 k s)) (i 2) (i 1)

section
include hx he

/-- The positions. -/
theorem posBlk_eq : posBlk (F := Ideal) x0 = posSpec e := by
  have h0 := cnt0_at x0 e hx he
  have h1 := cnt1_at x0 e hx he
  funext i
  unfold posBlk
  refine View.canon_apply_of_pieces (posSpec e) _ ?_ i (posCover x0 _)
  unfold posPieces
  generalize cnt0 (F := Ideal) x0 = A at *
  generalize cnt1 (F := Ideal) x0 = B at *
  intro p hp x
  simp only [List.mem_cons, List.not_mem_nil, or_false] at hp
  rcases hp with rfl | rfl
  · refine row_piece (α := .i32) (k0_pay28 (k0_pay19 B)) ![0, 1, 0] 1 rfl inb_S1x2x256_S1x1x256_0_1_0 (posSpec e) (fun s => ?_) x
    pointwise [k0_pay28, k0_pay19]
    rw [h1]
    exact Moe.word_place e s 1
  · refine row_piece (α := .i32) (k0_pay25 (k0_pay12 A 1#32)) ![0, 0, 0] 0 rfl inb_S1x2x256_S1x1x256_0_0_0 (posSpec e) (fun s => ?_) x
    pointwise [k0_pay25, k0_pay12]
    rw [h0]
    exact Moe.word_place e s 0

/-- The keep flags, widened. -/
theorem keepBlk_eq : keepBlk (F := Ideal) x0 = keepSpec e := by
  have h0 := cnt0_at x0 e hx he
  have h1 := cnt1_at x0 e hx he
  funext i
  unfold keepBlk
  refine View.canon_apply_of_pieces (keepSpec e) _ ?_ i (keepCover x0 _)
  unfold keepPieces
  generalize cnt0 (F := Ideal) x0 = A at *
  generalize cnt1 (F := Ideal) x0 = B at *
  intro p hp x
  simp only [List.mem_cons, List.not_mem_nil, or_false] at hp
  rcases hp with rfl | rfl
  · refine row_piece (α := .i32) (k0_pay29 (k0_pay20 B)) ![0, 1, 0] 1 rfl inb_S1x2x256_S1x1x256_0_1_0 (keepSpec e) (fun s => ?_) x
    pointwise [k0_pay29, k0_pay20, k0_pay19]
    rw [h1]
    exact congrArg (fun w => BitVec.setWidth 32 (IntOp.cmpi .slt w 64#32)) (Moe.word_place e s 1)
  · refine row_piece (α := .i32) (k0_pay26 (k0_pay13 A 1#32)) ![0, 0, 0] 0 rfl inb_S1x2x256_S1x1x256_0_0_0 (keepSpec e) (fun s => ?_) x
    pointwise [k0_pay26, k0_pay13, k0_pay12]
    rw [h0]
    exact congrArg (fun w => BitVec.setWidth 32 (IntOp.cmpi .slt w 64#32)) (Moe.word_place e s 0)

omit hx he in
/-- The weight's arithmetic: the printed flag conversion is the flag's value. -/
theorem weight_word (w : BitVec 32) (s : Fin 256) (k : Fin 2) (x g0 g1 : EReal) (hw : w = BitVec.ofNat 32 (Moe.rank e s k)) :
    Ideal.div (x * FloatOps.sitofp (F := Ideal) .f32 (BitVec.setWidth 32 (IntOp.cmpi .slt (IntOp.subi w 1#32) 64#32)) : EReal) (g0 + g1)
      = Ideal.div (x * Scalar.uitofp (F := Ideal) .f32 (Moe.keepBit e s k)) (g0 + g1) := by
  have h : IntOp.subi (BitVec.ofNat 32 (Moe.rank e s k)) 1#32 = BitVec.ofNat 32 (Moe.place e s k) := Moe.word_place e s k
  have h2 : ∀ b : BitVec 1, (FloatOps.sitofp (F := Ideal) .f32 (BitVec.setWidth 32 b) : EReal) = Scalar.uitofp (F := Ideal) .f32 b := fun b => by
    rw [flag_word]
    by_cases hb : b = 1#1
    · subst hb; rw [if_pos rfl]; show (1 : EReal) = (((1#1 : BitVec 1).toNat : ℝ) : EReal); norm_num
    · obtain rfl := ValueIdx.eq_zero_of_ne_one hb
      rw [if_neg (by decide)]; show (0 : EReal) = (((0#1 : BitVec 1).toNat : ℝ) : EReal); norm_num
  rw [hw, h, h2]
  rfl

/-- The first choice's combine weight, -/
theorem comb0_at (x1 : Vec Ideal S1x2x256 .f32) (s : Fin 256) :
    k0_pay14 (F := Ideal) (k0_pay3 x1) (k0_pay9 x1) (cnt0 x0) 1#32 (ix2 0 s) = Moe.comb e (fun s k => x1 (ix3 0 k s)) s 0 := by
  have h0 := cnt0_at x0 e hx he s
  generalize cnt0 (F := Ideal) x0 = A at *
  pointwise [k0_pay14, k0_pay3, k0_pay9, k0_pay13, k0_pay12]
  exact weight_word e _ s 0 _ _ _ h0

/-- the second's, -/
theorem comb1_at (x1 : Vec Ideal S1x2x256 .f32) (s : Fin 256) :
    k0_pay21 (F := Ideal) (k0_pay3 x1) (k0_pay9 x1) (cnt1 x0) (ix2 0 s) = Moe.comb e (fun s k => x1 (ix3 0 k s)) s 1 := by
  have h1 := cnt1_at x0 e hx he s
  generalize cnt1 (F := Ideal) x0 = A at *
  pointwise [k0_pay21, k0_pay3, k0_pay9, k0_pay20, k0_pay19]
  exact weight_word e _ s 1 _ _ _ h1

/-- and the block of both. -/
theorem combBlk_eq (x1 : Vec Ideal S1x2x256 .f32) : combBlk (F := Ideal) x0 x1 = combSpec e x1 := by
  have h0 := comb0_at x0 e hx he x1
  have h1 := comb1_at x0 e hx he x1
  funext i
  unfold combBlk
  refine View.canon_apply_of_pieces (combSpec e x1) _ ?_ i (combCover x0 x1 _)
  unfold combPieces
  generalize k0_pay14 (F := Ideal) (k0_pay3 x1) (k0_pay9 x1) (cnt0 x0) 1#32 = A at *
  generalize k0_pay21 (F := Ideal) (k0_pay3 x1) (k0_pay9 x1) (cnt1 x0) = B at *
  intro p hp x
  simp only [List.mem_cons, List.not_mem_nil, or_false] at hp
  rcases hp with rfl | rfl
  · refine row_piece (α := .f32) (k0_pay30 B) ![0, 1, 0] 1 rfl inb_S1x2x256_S1x1x256_0_1_0 (combSpec e x1) (fun s => ?_) x
    pointwise [k0_pay30]
    exact h1 s
  · refine row_piece (α := .f32) (k0_pay27 A) ![0, 0, 0] 0 rfl inb_S1x2x256_S1x1x256_0_0_0 (combSpec e x1) (fun s => ?_) x
    pointwise [k0_pay27]
    exact h0 s

end

end Cert.KernelIdeal.Hand

end
-- ==== Proof.Kern.Weights.lean ====
/- The kernel's selected rows and their weights. -/
module

public import proofs.«01_k».proof.Proof.Kern.Routing

@[expose] public section

set_option maxRecDepth 16384

noncomputable section

namespace Cert.KernelIdeal.Hand

open Cert.KernelIdeal Cert.KernelIdeal.Gen Idealize.ShloMosaic

variable (x0 : Vec Ideal S1x2x256 .i32) (e : Fin 256 → Fin 2 → Nat) (hx : ∀ s k, x0 (ix3 0 k s) = BitVec.ofNat 32 (e s k)) (he : ∀ s k, e s k < 10)

/-- The padded scales at an expert and slot. -/
theorem scale_at (x2 : Vec Ideal S1x10x64 .f32) (r u : Nat) (hr : r < 10) (hu : u < 64) :
    k0_pay10 (F := Ideal) x2 (ix2 ⟨r, Nat.lt_trans hr (by decide)⟩ ⟨u, Nat.lt_trans hu (by decide)⟩) = x2 (ix3 0 ⟨r, hr⟩ ⟨u, hu⟩) := by
  pointwise [k0_pay10]
  rw [dif_pos hu, dif_pos hr]

/-- The slot as a word. -/
theorem slot_word (t : Fin 256) (k : Fin 2) (w : BitVec 32) (hw : w = BitVec.ofNat 32 (Moe.rank e t k)) :
    IntOp.minsi (IntOp.subi w 1#32) 63#32 = BitVec.ofNat 32 (Moe.slot e t k) := by
  rw [hw, ← Moe.minsi_place e t k]
  exact congrArg (IntOp.minsi · 63#32) (Moe.word_place e t k)

/-- The lane a small word gathers. -/
theorem lane_word (n : Nat) (hn : n < 64) (w : BitVec 32) (hw : w = BitVec.ofNat 32 n) :
    (Scalar.select (IntOp.cmpi .slt w 0#32) (IntOp.addi w 128#32) w).toNat % 128 = n := by
  have hz : IntOp.cmpi .slt (BitVec.ofNat 32 n) 0#32 = 0#1 := by
    refine ValueIdx.eq_zero_of_ne_one fun h => ?_
    have := (StableHlo.Predicate.slt_ofNat_iff n 0 (by omega) (by decide)).1 h
    omega
  rw [hw, hz]
  show (BitVec.ofNat 32 n).toNat % 128 = _
  rw [BitVec.toNat_ofNat, Nat.mod_eq_of_lt (a := n) (by omega), Nat.mod_eq_of_lt (by omega)]

/-- The flat row: expert times capacity plus slot. -/
theorem flat_word (t : Fin 256) (k : Fin 2) (w : BitVec 32) (hw : w = BitVec.ofNat 32 (Moe.rank e t k)) :
    IntOp.addi (IntOp.muli (BitVec.ofNat 32 (e t k)) 64#32) (IntOp.minsi (IntOp.subi w 1#32) 63#32)
      = BitVec.ofNat 32 (e t k * 64 + Moe.slot e t k) := by
  rw [slot_word e t k w hw]
  show BitVec.ofNat 32 (e t k) * BitVec.ofNat 32 64 + BitVec.ofNat 32 (Moe.slot e t k) = _
  rw [BitVec.ofNat_add, BitVec.ofNat_mul]

/-- One expert is selected from sixteen. -/
theorem sum_select (v : Nat) (hv : v < 10) (f : Fin 16 → EReal) :
    (∑ x : Fin 16, Scalar.select (IntOp.cmpi .eq (BitVec.ofNat 32 x.val) (BitVec.ofNat 32 v)) (f x) 0 : EReal) = f ⟨v, by omega⟩ := by
  have hsel : ∀ x : Fin 16, Scalar.select (IntOp.cmpi .eq (BitVec.ofNat 32 x.val) (BitVec.ofNat 32 v)) (f x) 0 = if v = x.val then f x else 0 := fun x =>
    if_congr (eq_word (by omega) (by omega)) rfl rfl
  rw [Finset.sum_congr rfl fun x _ => hsel x, Finset.sum_eq_single (⟨v, by omega⟩ : Fin 16)]
  · rw [if_pos rfl]
  · intro x _ hx
    rw [if_neg fun h => hx (Fin.ext h.symm)]
  · intro h; exact absurd (Finset.mem_univ _) h

/-- The gathered scales of a token, whichever half it lies in. -/
theorem gather_at (S : FVec Ideal S16x128 .f32) (A : IVec S1x256 32) (t : Fin 256) (n : Nat) (hn : n < 64) (hw : A (ix2 0 t) = BitVec.ofNat 32 n) (x : Fin 16) :
    (if h : t.val < 128 then
        S (ix2 x ⟨(Scalar.select (IntOp.cmpi .slt (A (ix2 0 t)) 0#32) (IntOp.addi (A (ix2 0 t)) 128#32) (A (ix2 0 t))).toNat % 128, Nat.mod_lt _ (by decide)⟩)
      else
        S (ix2 x ⟨(Scalar.select (IntOp.cmpi .slt (A (ix2 0 ⟨128 + (t.val - 128), by omega⟩)) 0#32) (IntOp.addi (A (ix2 0 ⟨128 + (t.val - 128), by omega⟩)) 128#32)
          (A (ix2 0 ⟨128 + (t.val - 128), by omega⟩))).toNat % 128, Nat.mod_lt _ (by decide)⟩) : EReal)
      = S (ix2 x ⟨n, by omega⟩) := by
  split_ifs with h
  · exact congrArg S (congrArg (ix2 x) (Fin.ext (lane_word n hn _ hw)))
  · have ht : (⟨128 + (t.val - 128), by omega⟩ : Fin 256) = t := Fin.ext (by show 128 + (t.val - 128) = t.val; omega)
    exact congrArg S (congrArg (ix2 x) (Fin.ext (lane_word n hn _ ((congrArg (fun u => A (ix2 0 u)) ht).trans hw))))

/-- The scale a token picks. -/
theorem pick_at (S : FVec Ideal S16x128 .f32) (A : IVec S1x256 32) (t : Fin 256) (n : Nat) (hn : n < 64) (hw : A (ix2 0 t) = BitVec.ofNat 32 n)
    (v : Nat) (hv : v < 10) (w : BitVec 32) (hx : w = BitVec.ofNat 32 v) :
    (∑ x : Fin 16, Scalar.select (IntOp.cmpi .eq (BitVec.ofNat 32 x.val) w)
      (if h : t.val < 128 then
        S (ix2 x ⟨(Scalar.select (IntOp.cmpi .slt (A (ix2 0 t)) 0#32) (IntOp.addi (A (ix2 0 t)) 128#32) (A (ix2 0 t))).toNat % 128, Nat.mod_lt _ (by decide)⟩)
      else
        S (ix2 x ⟨(Scalar.select (IntOp.cmpi .slt (A (ix2 0 ⟨128 + (t.val - 128), by omega⟩)) 0#32) (IntOp.addi (A (ix2 0 ⟨128 + (t.val - 128), by omega⟩)) 128#32)
          (A (ix2 0 ⟨128 + (t.val - 128), by omega⟩))).toNat % 128, Nat.mod_lt _ (by decide)⟩) : EReal) 0 : EReal)
      = S (ix2 ⟨v, by omega⟩ ⟨n, by omega⟩) := by
  rw [hx]
  refine (Finset.sum_congr rfl fun x _ => congrArg (fun z : EReal => Scalar.select (IntOp.cmpi .eq (BitVec.ofNat 32 x.val) (BitVec.ofNat 32 v)) z 0)
    (gather_at S A t n hn hw x)).trans ?_
  exact sum_select v hv fun x => S (ix2 x ⟨n, by omega⟩)

section
include hx he

/-- The flat row of the first choice. -/
theorem flat0_at (t : Fin 256) : flat0 (F := Ideal) x0 (ix2 0 t) = BitVec.ofNat 32 (e t 0 * 64 + Moe.slot e t 0) := by
  have h0 := cnt0_at x0 e hx he t
  unfold flat0
  generalize cnt0 (F := Ideal) x0 = A at *
  pointwise [k0_pay16, k0_pay15, k0_pay12, k0_pay2]
  rw [hx]
  exact flat_word e t 0 _ h0

/-- Its slot. -/
theorem slot0_at (t : Fin 256) : k0_pay15 (cnt0 (F := Ideal) x0) 1#32 (ix2 0 t) = BitVec.ofNat 32 (Moe.slot e t 0) := by
  have h0 := cnt0_at x0 e hx he t
  generalize cnt0 (F := Ideal) x0 = A at *
  pointwise [k0_pay15, k0_pay12]
  exact slot_word e t 0 _ h0

/-- The weight of the first choice. -/
theorem wgt0_at (x1 : Vec Ideal S1x2x256 .f32) (x2 : Vec Ideal S1x10x64 .f32) (t : Fin 256) : wgt0 (F := Ideal) x0 x1 x2 (ix2 0 t)
    = (Moe.comb e (fun s k => x1 (ix3 0 k s)) t 0 * x2 (ix3 0 ⟨e t 0, he t 0⟩ ⟨Moe.slot e t 0, Moe.slot_lt e t 0⟩) : EReal) := by
  have hw := slot0_at x0 e hx he
  have hc := comb0_at x0 e hx he x1 t
  have hS := scale_at x2 (e t 0) (Moe.slot e t 0) (he t 0) (Moe.slot_lt e t 0)
  have hs := Moe.slot_lt e t 0
  unfold wgt0 k0_pay17
  generalize k0_pay14 (F := Ideal) (k0_pay3 x1) (k0_pay9 x1) (cnt0 x0) 1#32 = C at *
  generalize k0_pay15 (cnt0 (F := Ideal) x0) 1#32 = A at *
  generalize k0_pay10 (F := Ideal) x2 = S at *
  pointwise [expIota, k0_pay2]
  refine congrArg₂ (fun a b : EReal => a * b) hc ?_
  refine (pick_at S A t (Moe.slot e t 0) hs (hw t) (e t 0) (he t 0) _ (hx t 0)).trans hS

/-- The flat row of the second choice. -/
theorem flat1_at (t : Fin 256) : flat1 (F := Ideal) x0 (ix2 0 t) = BitVec.ofNat 32 (e t 1 * 64 + Moe.slot e t 1) := by
  have h0 := cnt1_at x0 e hx he t
  unfold flat1
  generalize cnt1 (F := Ideal) x0 = A at *
  pointwise [k0_pay23, k0_pay22, k0_pay19, k0_pay2]
  rw [hx]
  exact flat_word e t 1 _ h0

/-- Its slot. -/
theorem slot1_at (t : Fin 256) : k0_pay22 (cnt1 (F := Ideal) x0) (ix2 0 t) = BitVec.ofNat 32 (Moe.slot e t 1) := by
  have h0 := cnt1_at x0 e hx he t
  generalize cnt1 (F := Ideal) x0 = A at *
  pointwise [k0_pay22, k0_pay19]
  exact slot_word e t 1 _ h0

/-- The weight of the second choice. -/
theorem wgt1_at (x1 : Vec Ideal S1x2x256 .f32) (x2 : Vec Ideal S1x10x64 .f32) (t : Fin 256) : wgt1 (F := Ideal) x0 x1 x2 (ix2 0 t)
    = (Moe.comb e (fun s k => x1 (ix3 0 k s)) t 1 * x2 (ix3 0 ⟨e t 1, he t 1⟩ ⟨Moe.slot e t 1, Moe.slot_lt e t 1⟩) : EReal) := by
  have hw := slot1_at x0 e hx he
  have hc := comb1_at x0 e hx he x1 t
  have hS := scale_at x2 (e t 1) (Moe.slot e t 1) (he t 1) (Moe.slot_lt e t 1)
  have hs := Moe.slot_lt e t 1
  unfold wgt1 k0_pay24
  generalize k0_pay21 (F := Ideal) (k0_pay3 x1) (k0_pay9 x1) (cnt1 x0) = C at *
  generalize k0_pay22 (cnt1 (F := Ideal) x0) = A at *
  generalize k0_pay10 (F := Ideal) x2 = S at *
  pointwise [expIota, k0_pay2]
  refine congrArg₂ (fun a b : EReal => a * b) hc ?_
  refine (pick_at S A t (Moe.slot e t 1) hs (hw t) (e t 1) (he t 1) _ (hx t 1)).trans hS

end

end Cert.KernelIdeal.Hand

end
-- ==== Proof.Kern.Select.lean ====
/- The kernel's selection matrix and spread weights. -/
module

public import proofs.«01_k».proof.Proof.Kern.Weights

@[expose] public section

set_option maxRecDepth 16384

noncomputable section

namespace Cert.KernelIdeal.Hand

open Cert.KernelIdeal Cert.KernelIdeal.Gen Idealize.ShloMosaic

variable (x0 : Vec Ideal S1x2x256 .i32) (e : Fin 256 → Fin 2 → Nat) (hx : ∀ s k, x0 (ix3 0 k s) = BitVec.ofNat 32 (e s k)) (he : ∀ s k, e s k < 10)

/-- The flat row of a token's choice. -/
def flatRow (t : Fin 256) (k : Fin 2) : Nat := e t k * 64 + Moe.slot e t k

include he in
theorem flatRow_lt (t : Fin 256) (k : Fin 2) : flatRow e t k < 640 := by
  have h1 := he t k
  have h2 := Moe.slot_lt e t k
  unfold flatRow
  omega

/-- A token's weight for a choice. -/
def weight (x1 : Vec Ideal S1x2x256 .f32) (x2 : Vec Ideal S1x10x64 .f32) (t : Fin 256) (k : Fin 2) : EReal :=
  Moe.comb e (fun s k => x1 (ix3 0 k s)) t k * x2 (ix3 0 ⟨e t k, he t k⟩ ⟨Moe.slot e t k, Moe.slot_lt e t k⟩)

/-- A small word to a float and back. -/
theorem word_roundtrip {n : Nat} (h : n < 2 ^ 31) : (FloatOps.fptosi (F := Ideal) (φ := .f32) 32 (FloatOps.sitofp (F := Ideal) .f32 (BitVec.ofNat 32 n)) : BitVec 32) = BitVec.ofNat 32 n := by
  have h1 : (FloatOps.sitofp (F := Ideal) .f32 (BitVec.ofNat 32 n) : EReal) = (n : EReal) := by
    rw [← EReal.coe_coe_eq_natCast]
    show (((BitVec.ofNat 32 n).toInt : ℝ) : EReal) = _
    rw [StableHlo.Predicate.toInt_ofNat_small n h]
    norm_num
  exact (congrArg (Ideal.fptosi 32) h1).trans (fptosi_nat h)

/-- One entry of a one-hot row. -/
theorem hot_word (n r : Nat) (hn : n < 640) (hr : r < 640) (w : BitVec 32) (hw : w = BitVec.ofNat 32 n) :
    (FloatOps.sitofp (F := Ideal) .f32 (BitVec.setWidth 32 (IntOp.cmpi .eq (BitVec.ofNat 32 r)
      (FloatOps.fptosi (F := Ideal) (φ := .f32) 32 (FloatOps.sitofp (F := Ideal) .f32 w)))) : EReal) = if n = r then 1 else 0 := by
  rw [flag_word, hw, word_roundtrip (by omega)]
  exact if_congr (eq_word (by omega) (by omega)) rfl rfl

section
variable (f0 f1 : IVec S1x256 32) (w0 w1 : FVec Ideal S1x256 .f32)

/-- The one-hot row of a token's first choice, -/
theorem sel0_at (t : Fin 256) (n : Nat) (hn : n < 640) (hf : f0 (ix2 0 t) = BitVec.ofNat 32 n) (r : Fin 640) :
    (k0_pay32 (F := Ideal) f0 w0 f1 w1 (ix2 t r) : EReal) = if n = r.val then 1 else 0 := by
  pointwise [k0_pay32, k0_pay31]
  exact hot_word n r.val hn r.isLt _ hf

/-- and of its second. -/
theorem sel1_at (t : Fin 256) (n : Nat) (hn : n < 640) (hf : f1 (ix2 0 t) = BitVec.ofNat 32 n) (r : Fin 640) :
    (k0_pay35 (F := Ideal) (k0_pay31 f0 w0 f1 w1) (iota .tc S256x640 32 [1] iota_S256x640_d1_w32) (ix2 t r) : EReal) = if n = r.val then 1 else 0 := by
  pointwise [k0_pay35, k0_pay31]
  exact hot_word n r.val hn r.isLt _ hf

/-- The first choice's weight, spread along the lanes, -/
theorem spread0_at (t : Fin 256) (l : Fin 128) : (k0_pay34 (F := Ideal) (k0_pay33 f0 w0 f1 w1) (ix3 0 t l) : EReal) = w0 (ix2 0 t) := by
  pointwise [k0_pay34, k0_pay33, k0_pay31]

/-- and the second's. -/
theorem spread1_at (t : Fin 256) (l : Fin 128) : (k0_pay36 (F := Ideal) (k0_pay31 f0 w0 f1 w1) (ix3 0 t l) : EReal) = w1 (ix2 0 t) := by
  pointwise [k0_pay36, k0_pay31]

end

/-- A half of the selection matrix agrees with an array holding its rows. -/
theorem sel_piece (p : Vec Ideal S256x640 .fp8e4m3) (o : Fin 2 → Nat) (k : Nat) (hk : k < 2) (ho : o = ![256 * k, 0])
    (inb : ∀ a, o a + S256x640.size a ≤ S512x640.size a) (G : Vec Ideal S512x640 .fp8e4m3)
    (h : ∀ (s : Fin 256) (r : Fin 640), p (ix2 s r) = G (ix2 ⟨256 * k + s.val, by omega⟩ r))
    (x : S256x640.Idx) : p x = G ((Rect.unit (s := S512x640) o S256x640.size inb).emb x) := by
  subst ho
  have e1 : x = ix2 (x 0) (x 1) := funext fun a => by
    match a with
    | ⟨0, _⟩ => rfl
    | ⟨1, _⟩ => rfl
  have hx0 : (x 0).val < 256 := (x 0).isLt
  have e2 : (Rect.unit (s := S512x640) ![256 * k, 0] S256x640.size inb).emb x = ix2 ⟨256 * k + (x 0).val, by omega⟩ (x 1) := funext fun a => Fin.ext (by
    match a with
    | ⟨0, _⟩ => show 256 * k + 1 * (x 0).val = 256 * k + (x 0).val; omega
    | ⟨1, _⟩ => show 0 + 1 * (x 1).val = (x 1).val; omega)
  rw [e2]
  conv_lhs => rw [e1]
  exact h (x 0) (x 1)

/-- The spread weights of one choice agree with an array holding both. -/
theorem spread_piece (p : Vec Ideal S1x256x128 .f32) (o : Fin 3 → Nat) (k : Fin 2) (ho : o = ![k.val, 0, 0])
    (inb : ∀ a, o a + S1x256x128.size a ≤ S2x256x128.size a) (G : Vec Ideal S2x256x128 .f32) (h : ∀ s l, p (ix3 0 s l) = G (ix3 k s l))
    (x : S1x256x128.Idx) : p x = G ((Rect.unit (s := S2x256x128) o S1x256x128.size inb).emb x) := by
  subst ho
  have hx0 : (x 0).val < 1 := (x 0).isLt
  have e1 : x = ix3 0 (x 1) (x 2) := funext fun a => Fin.ext (by
    match a with
    | ⟨0, _⟩ => show (x 0).val = 0; omega
    | ⟨1, _⟩ => rfl
    | ⟨2, _⟩ => rfl)
  have e2 : (Rect.unit (s := S2x256x128) ![k.val, 0, 0] S1x256x128.size inb).emb x = ix3 k (x 1) (x 2) := funext fun a => Fin.ext (by
    match a with
    | ⟨0, _⟩ => show k.val + 1 * (x 0).val = k.val; omega
    | ⟨1, _⟩ => show 0 + 1 * (x 1).val = (x 1).val; omega
    | ⟨2, _⟩ => show 0 + 1 * (x 2).val = (x 2).val; omega)
  rw [e2]
  conv_lhs => rw [e1]
  exact h (x 1) (x 2)

/-- The selection matrix: row `256 k + s` is one at the flat row of token `s`'s choice `k`. -/
def selSpec : Vec Ideal S512x640 .fp8e4m3 := fun i =>
  (if flatRow e ⟨(i 0).val % 256, Nat.mod_lt _ (by decide)⟩ ⟨(i 0).val / 256, Nat.div_lt_of_lt_mul (show (i 0).val < 256 * 2 from (i 0).isLt)⟩ = (i 1).val then 1 else 0 : EReal)

theorem selSpec_at (k : Nat) (hk : k < 2) (s : Fin 256) (r : Fin 640) :
    selSpec e (ix2 ⟨256 * k + s.val, by omega⟩ r) = (if flatRow e s ⟨k, hk⟩ = r.val then 1 else 0 : EReal) := by
  have h1 : (256 * k + s.val) % 256 = s.val := by omega
  have h2 : (256 * k + s.val) / 256 = k := by omega
  have h3 : (⟨(256 * k + s.val) % 256, Nat.mod_lt _ (by decide)⟩ : Fin 256) = s := Fin.ext h1
  have h4 : (⟨(256 * k + s.val) / 256, by omega⟩ : Fin 2) = ⟨k, hk⟩ := Fin.ext h2
  show (if flatRow e (⟨(256 * k + s.val) % 256, Nat.mod_lt _ (by decide)⟩ : Fin 256) (⟨(256 * k + s.val) / 256, by omega⟩ : Fin 2) = r.val then 1 else 0 : EReal) = _
  rw [h3, h4]

/-- The spread weights: the same along every lane. -/
def wSpec (x1 : Vec Ideal S1x2x256 .f32) (x2 : Vec Ideal S1x10x64 .f32) : Vec Ideal S2x256x128 .f32 := fun i => weight e he x1 x2 (i 1) (i 0)

section
include hx he

theorem selMat_eq (x1 : Vec Ideal S1x2x256 .f32) (x2 : Vec Ideal S1x10x64 .f32) : selMat (F := Ideal) x0 x1 x2 = selSpec e := by
  have h0 := flat0_at x0 e hx he
  have h1 := flat1_at x0 e hx he
  have hl := flatRow_lt e he
  funext i
  unfold selMat
  refine View.canon_apply_of_pieces (selSpec e) _ ?_ i (selCover x0 x1 x2 _)
  unfold selPieces
  generalize flat0 (F := Ideal) x0 = A at *
  generalize flat1 (F := Ideal) x0 = B at *
  generalize wgt0 (F := Ideal) x0 x1 x2 = C at *
  generalize wgt1 (F := Ideal) x0 x1 x2 = D at *
  intro p hp x
  simp only [List.mem_cons, List.not_mem_nil, or_false] at hp
  rcases hp with rfl | rfl
  · refine sel_piece (k0_pay35 (k0_pay31 A C B D) (iota .tc S256x640 32 [1] iota_S256x640_d1_w32)) ![256, 0] 1 (by decide) rfl inb_S512x640_S256x640_256_0 (selSpec e) (fun s r => ?_) x
    rw [selSpec_at e 1 (by decide) s r]
    exact sel1_at A B C D s (flatRow e s 1) (hl s 1) (h1 s) r
  · refine sel_piece (k0_pay32 A C B D) ![0, 0] 0 (by decide) rfl inb_S512x640_S256x640_0_0 (selSpec e) (fun s r => ?_) x
    rw [selSpec_at e 0 (by decide) s r]
    exact sel0_at A B C D s (flatRow e s 0) (hl s 0) (h0 s) r

theorem wMat_eq (x1 : Vec Ideal S1x2x256 .f32) (x2 : Vec Ideal S1x10x64 .f32) : wMat (F := Ideal) x0 x1 x2 = wSpec e he x1 x2 := by
  have h0 := wgt0_at x0 e hx he x1 x2
  have h1 := wgt1_at x0 e hx he x1 x2
  funext i
  unfold wMat
  refine View.canon_apply_of_pieces (wSpec e he x1 x2) _ ?_ i (wCover x0 x1 x2 _)
  unfold wPieces
  generalize flat0 (F := Ideal) x0 = A at *
  generalize flat1 (F := Ideal) x0 = B at *
  generalize wgt0 (F := Ideal) x0 x1 x2 = C at *
  generalize wgt1 (F := Ideal) x0 x1 x2 = D at *
  intro p hp x
  simp only [List.mem_cons, List.not_mem_nil, or_false] at hp
  rcases hp with rfl | rfl
  · refine spread_piece (k0_pay36 (k0_pay31 A C B D)) ![1, 0, 0] 1 rfl inb_S2x256x128_S1x256x128_1_0_0 (wSpec e he x1 x2) (fun s l => ?_) x
    exact (spread1_at A B C D s l).trans (h1 s)
  · refine spread_piece (k0_pay34 (k0_pay33 A C B D)) ![0, 0, 0] 0 rfl inb_S2x256x128_S1x256x128_0_0_0 (wSpec e he x1 x2) (fun s l => ?_) x
    exact (spread0_at A B C D s l).trans (h0 s)

end

end Cert.KernelIdeal.Hand

end
-- ==== Proof.Kern.Rows.lean ====
/- The y block: the two selected code rows of each token, weighted and added. -/
module

public import proofs.«01_k».proof.Proof.Kern.Select

@[expose] public section

set_option maxRecDepth 16384

noncomputable section

namespace Cert.KernelIdeal.Hand

open Cert.KernelIdeal Cert.KernelIdeal.Gen Idealize.ShloMosaic

/-- The product of the selection matrix with the code block. -/
theorem product_at (x3 : Vec Ideal S1x10x64x1536 .fp8e4m3) (P : Vec Ideal S512x640 .fp8e4m3) (r : Fin 512) (d : Fin 1536) :
    (k0_pay37 (F := Ideal) x3 P (ix2 r d) : EReal) = ∑ u : Fin 640, (P (ix2 r u) : EReal) * x3 (ix4 0 ⟨u.val / 64, by omega⟩ ⟨u.val % 64, by omega⟩ d) := by
  pointwise [k0_pay37]

/-- A one-hot row picks one code row. -/
theorem picked_at (x3 : Vec Ideal S1x10x64x1536 .fp8e4m3) (P : Vec Ideal S512x640 .fp8e4m3) (r : Fin 512) (d : Fin 1536)
    (v n : Nat) (hv : v < 10) (hn : n < 64) (hP : ∀ u : Fin 640, (P (ix2 r u) : EReal) = if v * 64 + n = u.val then 1 else 0) :
    (k0_pay37 (F := Ideal) x3 P (ix2 r d) : EReal) = x3 (ix4 0 ⟨v, hv⟩ ⟨n, hn⟩ d) := by
  have h1 : (v * 64 + n) / 64 = v := by omega
  have h2 : (v * 64 + n) % 64 = n := by omega
  rw [product_at, Finset.sum_eq_single (⟨v * 64 + n, by omega⟩ : Fin 640)]
  · rw [hP, if_pos rfl, one_mul]
    exact congrArg x3 (congrArg₂ (fun a b => ix4 0 a b d) (Fin.ext h1) (Fin.ext h2))
  · intro u _ hu
    rw [hP, if_neg fun h => hu (Fin.ext h.symm), zero_mul]
  · intro h; exact absurd (Finset.mem_univ _) h

/-- A lane tile of the y block agrees with an array holding all of them. -/
theorem lane_piece (p : Vec Ideal S1x256x128 .bf16) (o : Fin 3 → Nat) (n : Nat) (hn : n + 128 ≤ 1536) (ho : o = ![0, 0, n])
    (inb : ∀ a, o a + S1x256x128.size a ≤ S1x256x1536.size a) (G : Vec Ideal S1x256x1536 .bf16)
    (h : ∀ (s : Fin 256) (l : Fin 128), p (ix3 0 s l) = G (ix3 0 s ⟨n + l.val, by omega⟩))
    (x : S1x256x128.Idx) : p x = G ((Rect.unit (s := S1x256x1536) o S1x256x128.size inb).emb x) := by
  subst ho
  have hx0 : (x 0).val < 1 := (x 0).isLt
  have hx2 : (x 2).val < 128 := (x 2).isLt
  have e1 : x = ix3 0 (x 1) (x 2) := funext fun a => Fin.ext (by
    match a with
    | ⟨0, _⟩ => show (x 0).val = 0; omega
    | ⟨1, _⟩ => rfl
    | ⟨2, _⟩ => rfl)
  have e2 : (Rect.unit (s := S1x256x1536) ![0, 0, n] S1x256x128.size inb).emb x = ix3 0 (x 1) ⟨n + (x 2).val, by omega⟩ := funext fun a => Fin.ext (by
    match a with
    | ⟨0, _⟩ => show 0 + 1 * (x 0).val = 0; omega
    | ⟨1, _⟩ => show 0 + 1 * (x 1).val = (x 1).val; omega
    | ⟨2, _⟩ => show n + 1 * (x 2).val = n + (x 2).val; omega)
  rw [e2]
  conv_lhs => rw [e1]
  exact h (x 1) (x 2)

/-- The y block of a product `R` and weights `w`. -/
def ySpec (R : FVec Ideal S512x1536 .f32) (w : Fin 256 → Fin 2 → EReal) : Vec Ideal S1x256x1536 .bf16 := fun i =>
  (w (i 1) 0 * R (ix2 ⟨(i 1).val, Nat.lt_trans (show (i 1).val < 256 from (i 1).isLt) (by decide)⟩ (i 2))
    + w (i 1) 1 * R (ix2 ⟨256 + (i 1).val, Nat.add_lt_add_left (show (i 1).val < 256 from (i 1).isLt) 256⟩ (i 2)) : EReal)

/-- Its element, with the weights as read. -/
theorem weighted (R : FVec Ideal S512x1536 .f32) (w : Fin 256 → Fin 2 → EReal) (s : Fin 256) (d : Fin 1536) (a b : EReal) (ha : a = w s 0) (hb : b = w s 1) :
    a * R (ix2 ⟨s.val, by omega⟩ d) + b * R (ix2 ⟨256 + s.val, by omega⟩ d) = ySpec R w (ix3 0 s d) := by
  rw [ha, hb]
  rfl

theorem wRow0_at (W : Vec Ideal S2x256x128 .f32) (w : Fin 256 → Fin 2 → EReal) (hW : ∀ k s l, W (ix3 k s l) = w s k) (s : Fin 256) (l : Fin 128) :
    (wRow0 W (ix3 0 s l) : EReal) = w s 0 := by
  rw [← hW 0 s l]
  unfold wRow0
  rw [View.ld_apply]
  refine congrArg W (funext fun a => Fin.ext ?_)
  match a with
  | ⟨0, _⟩ => rfl
  | ⟨1, _⟩ => show 0 + 1 * s.val = s.val; omega
  | ⟨2, _⟩ => show 0 + 1 * l.val = l.val; omega

theorem wRow1_at (W : Vec Ideal S2x256x128 .f32) (w : Fin 256 → Fin 2 → EReal) (hW : ∀ k s l, W (ix3 k s l) = w s k) (s : Fin 256) (l : Fin 128) :
    (wRow1 W (ix3 0 s l) : EReal) = w s 1 := by
  rw [← hW 1 s l]
  unfold wRow1
  rw [View.ld_apply]
  refine congrArg W (funext fun a => Fin.ext ?_)
  match a with
  | ⟨0, _⟩ => rfl
  | ⟨1, _⟩ => show 0 + 1 * s.val = s.val; omega
  | ⟨2, _⟩ => show 0 + 1 * l.val = l.val; omega

/-- The y block is the weighted sum of the two halves of the product. -/
theorem yBlk_eq (x3 : Vec Ideal S1x10x64x1536 .fp8e4m3) (P : Vec Ideal S512x640 .fp8e4m3) (W : Vec Ideal S2x256x128 .f32)
    (w : Fin 256 → Fin 2 → EReal) (hW : ∀ k s l, W (ix3 k s l) = w s k) : yBlk (F := Ideal) x3 P W = ySpec (k0_pay37 x3 P) w := by
  have h0 := wRow0_at W w hW
  have h1 := wRow1_at W w hW
  funext i
  unfold yBlk
  refine View.canon_apply_of_pieces (ySpec (k0_pay37 x3 P) w) _ ?_ i (yCover x3 P W _)
  unfold yPieces k0_pay40 k0_pay41 k0_pay42 k0_pay43
  generalize k0_pay37 (F := Ideal) x3 P = R
  generalize wRow0 W = A at *
  generalize wRow1 W = B at *
  intro p hp x
  simp only [List.mem_cons, List.not_mem_nil, or_false] at hp
  rcases hp with rfl | rfl | rfl | rfl | rfl | rfl | rfl | rfl | rfl | rfl | rfl | rfl
  · refine lane_piece _ ![0, 0, 1408] 1408 (by decide) rfl inb_S1x256x1536_S1x256x128_0_0_1408 (ySpec R w) (fun s l => ?_) x
    pointwise [k0_pay1, k0_pay53, k0_pay38, k0_pay39]
    exact weighted R w s _ _ _ (h0 s l) (h1 s l)
  · refine lane_piece _ ![0, 0, 1280] 1280 (by decide) rfl inb_S1x256x1536_S1x256x128_0_0_1280 (ySpec R w) (fun s l => ?_) x
    pointwise [k0_pay52, k0_pay38, k0_pay39]
    exact weighted R w s _ _ _ (h0 s l) (h1 s l)
  · refine lane_piece _ ![0, 0, 1152] 1152 (by decide) rfl inb_S1x256x1536_S1x256x128_0_0_1152 (ySpec R w) (fun s l => ?_) x
    pointwise [k0_pay51, k0_pay38, k0_pay39]
    exact weighted R w s _ _ _ (h0 s l) (h1 s l)
  · refine lane_piece _ ![0, 0, 1024] 1024 (by decide) rfl inb_S1x256x1536_S1x256x128_0_0_1024 (ySpec R w) (fun s l => ?_) x
    pointwise [k0_pay50, k0_pay38, k0_pay39]
    exact weighted R w s _ _ _ (h0 s l) (h1 s l)
  · refine lane_piece _ ![0, 0, 896] 896 (by decide) rfl inb_S1x256x1536_S1x256x128_0_0_896 (ySpec R w) (fun s l => ?_) x
    pointwise [k0_pay49, k0_pay38, k0_pay39]
    exact weighted R w s _ _ _ (h0 s l) (h1 s l)
  · refine lane_piece _ ![0, 0, 768] 768 (by decide) rfl inb_S1x256x1536_S1x256x128_0_0_768 (ySpec R w) (fun s l => ?_) x
    pointwise [k0_pay48, k0_pay38, k0_pay39]
    exact weighted R w s _ _ _ (h0 s l) (h1 s l)
  · refine lane_piece _ ![0, 0, 640] 640 (by decide) rfl inb_S1x256x1536_S1x256x128_0_0_640 (ySpec R w) (fun s l => ?_) x
    pointwise [k0_pay47, k0_pay38, k0_pay39]
    exact weighted R w s _ _ _ (h0 s l) (h1 s l)
  · refine lane_piece _ ![0, 0, 512] 512 (by decide) rfl inb_S1x256x1536_S1x256x128_0_0_512 (ySpec R w) (fun s l => ?_) x
    pointwise [k0_pay46, k0_pay38, k0_pay39]
    exact weighted R w s _ _ _ (h0 s l) (h1 s l)
  · refine lane_piece _ ![0, 0, 384] 384 (by decide) rfl inb_S1x256x1536_S1x256x128_0_0_384 (ySpec R w) (fun s l => ?_) x
    pointwise [k0_pay45, k0_pay38, k0_pay39]
    exact weighted R w s _ _ _ (h0 s l) (h1 s l)
  · refine lane_piece _ ![0, 0, 256] 256 (by decide) rfl inb_S1x256x1536_S1x256x128_0_0_256 (ySpec R w) (fun s l => ?_) x
    pointwise [k0_pay44, k0_pay38, k0_pay39]
    exact weighted R w s _ _ _ (h0 s l) (h1 s l)
  · refine lane_piece _ ![0, 0, 128] 128 (by decide) rfl inb_S1x256x1536_S1x256x128_0_0_128 (ySpec R w) (fun s l => ?_) x
    pointwise [k0_pay38, k0_pay39]
    exact weighted R w s _ _ _ (h0 s l) (h1 s l)
  · refine lane_piece _ ![0, 0, 0] 0 (by decide) rfl inb_S1x256x1536_S1x256x128_0_0_0 (ySpec R w) (fun s l => ?_) x
    pointwise [k0_pay38, k0_pay39]
    exact weighted R w s _ _ _ (h0 s l) (h1 s l)

section
variable (x0 : Vec Ideal S1x2x256 .i32) (e : Fin 256 → Fin 2 → Nat) (hx : ∀ s k, x0 (ix3 0 k s) = BitVec.ofNat 32 (e s k)) (he : ∀ s k, e s k < 10)
include hx he

/-- The y block of a batch: each token's two code rows, weighted and added. -/
theorem yBlk_at (x1 : Vec Ideal S1x2x256 .f32) (x2 : Vec Ideal S1x10x64 .f32) (x3 : Vec Ideal S1x10x64x1536 .fp8e4m3) (s : Fin 256) (d : Fin 1536) :
    (yBlk (F := Ideal) x3 (selMat x0 x1 x2) (wMat x0 x1 x2) (ix3 0 s d) : EReal)
      = weight e he x1 x2 s 0 * x3 (ix4 0 ⟨e s 0, he s 0⟩ ⟨Moe.slot e s 0, Moe.slot_lt e s 0⟩ d)
        + weight e he x1 x2 s 1 * x3 (ix4 0 ⟨e s 1, he s 1⟩ ⟨Moe.slot e s 1, Moe.slot_lt e s 1⟩ d) := by
  rw [selMat_eq x0 e hx he x1 x2, wMat_eq x0 e hx he x1 x2, yBlk_eq x3 (selSpec e) (wSpec e he x1 x2) (weight e he x1 x2) (fun _ _ _ => rfl)]
  have hp : ∀ u : Fin 640, (selSpec e (ix2 ⟨s.val, by omega⟩ u) : EReal) = if e s 0 * 64 + Moe.slot e s 0 = u.val then 1 else 0 := fun u => by
    have h := selSpec_at e 0 (by decide) s u
    simp only [Nat.mul_zero, Nat.zero_add] at h
    exact h
  refine congrArg₂ (fun a b : EReal => weight e he x1 x2 s 0 * a + weight e he x1 x2 s 1 * b) ?_ ?_
  · exact picked_at x3 (selSpec e) _ d (e s 0) (Moe.slot e s 0) (he s 0) (Moe.slot_lt e s 0) hp
  · exact picked_at x3 (selSpec e) _ d (e s 1) (Moe.slot e s 1) (he s 1) (Moe.slot_lt e s 1) (selSpec_at e 1 (by decide) s)

end

end Cert.KernelIdeal.Hand

end
-- ==== Proof.Ref.Host.lean ====
/- The reference's host operations as functions of its arguments: each buffer the host lines leave, named by the array
   it holds (`hotOf`, `cumOf`, `posOf`, `keepOf`, `combOf`, `flatOf`, `wgtOf`, `rowsOf`). -/
module

public import proofs.«01_k».proof.Proof.Gen.ReferenceIdeal.Value
public import Idealize.ShloMosaic.Lib.Claim
public import Idealize.ShloMosaic.Lib.StableHlo.RunClose

@[expose] public section

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- One-hot rows of the expert ids: element `(b, s, c, e)` is `1` where the id is `e`. -/
def hotOf (E : IVec S6x256x2 32) : IVec S6x256x2x10 32 :=
  extui 32 (cmpi .eq
    (broadcastInDim S6x256x2x10 ![0, 1, 2, 3] bcast_S6x256x2x1_S6x256x2x10_0_1_2_3 (broadcastInDim S6x256x2x1 ![0, 1, 2] bcast_S6x256x2_S6x256x2x1_0_1_2 E))
    (broadcastInDim S6x256x2x10 ![0, 1, 2, 3] bcast_S1x1x1x10_S6x256x2x10_0_1_2_3 (iotaInDim S1x1x1x10 32 3))) natLt_1_32

/-- The running counts of a one-hot array along the sequence. -/
def cumOf (x : IVec S6x256x2x10 32) : IVec S6x256x2x10 32 :=
  Host.reduceWindow IntOp.addi ![1, 256, 1, 1] ![1, 1, 1, 1] ![0, 255, 0, 0] ![0, 0, 0, 0] x
    (broadcastInDim S_ ![] bcast_S_S_ (constantI S_ 32 0#32))
    reduceWindows_S6x256x2x10_S6x256x2x10_w1s1p0_0_w256s1p255_0_w1s1p0_0_w1s1p0_0 h_S_

/-- The start indices of the element-wise lookup along the expert axis: a negative id counts from the end. -/
def ownIdx (i : IVec S6x256x2x1 32) : IVec S6x256x2x1x1 32 :=
  shapeCast S6x256x2x1x1
    (select (cmpi .slt i (broadcastInDim S6x256x2x1 ![] bcast_S_S6x256x2x1 (constantI S_ 32 0#32)))
      (addi i (broadcastInDim S6x256x2x1 ![] bcast_S_S6x256x2x1 (constantI S_ 32 10#32))) i)
    shapeCasts_S6x256x2x1_S6x256x2x1x1

/-- The element-wise lookup along the expert axis: the entry at the id, a fixed word where the id is out of range. -/
def takeOwn (x : IVec S6x256x2x10 32) (i : IVec S6x256x2x1 32) : IVec S6x256x2x1 32 :=
  select
    (Host.reduce IntOp.andi
      (andi (cmpi .sge (ownIdx i) (broadcastInDim S6x256x2x1x1 ![] bcast_S_S6x256x2x1x1 (constantI S_ 32 0#32)))
        (cmpi .sle (ownIdx i) (broadcastInDim S6x256x2x1x1 ![0, 1, 2, 3, 4] bcast_S1x1x1x1x1_S6x256x2x1x1_0_1_2_3_4
          (broadcastInDim S1x1x1x1x1 ![4] bcast_S1_S1x1x1x1x1_4 (constantI S1 32 9#32)))))
      (constantI S_ 1 1#1) reducesTo_S6x256x2x1x1_S6x256x2x1_d4 h_S_)
    (Host.gather gather_S6x256x2x10_S6x256x2x1x1_S6x256x2x1_n_3_012_012_3_4_1111 x (ownIdx i))
    (broadcastInDim S6x256x2x1 ![] bcast_S_S6x256x2x1 (constantI S_ 32 2147483648#32))

/-- The start indices of the lookup into the counts of a batch. -/
def cntIdx (i : IVec S6x256 32) : IVec S6x256x1 32 :=
  shapeCast S6x256x1
    (select (cmpi .slt i (broadcastInDim S6x256 ![] bcast_S_S6x256 (constantI S_ 32 0#32)))
      (addi i (broadcastInDim S6x256 ![] bcast_S_S6x256 (constantI S_ 32 10#32))) i)
    shapeCasts_S6x256_S6x256x1

/-- The lookup into the counts of a batch: the entry at the id, a fixed word where the id is out of range. -/
def takeCnt (x : IVec S6x10 32) (i : IVec S6x256 32) : IVec S6x256 32 :=
  select
    (Host.reduce IntOp.andi
      (andi (cmpi .sge (cntIdx i) (broadcastInDim S6x256x1 ![] bcast_S_S6x256x1 (constantI S_ 32 0#32)))
        (cmpi .sle (cntIdx i) (broadcastInDim S6x256x1 ![0, 1, 2] bcast_S1x1x1_S6x256x1_0_1_2
          (broadcastInDim S1x1x1 ![2] bcast_S1_S1x1x1_2 (constantI S1 32 9#32)))))
      (constantI S_ 1 1#1) reducesTo_S6x256x1_S6x256_d2 h_S_)
    (Host.gather gather_S6x10_S6x256x1_S6x256_n_1_0_0_1_2_11 x (cntIdx i))
    (broadcastInDim S6x256 ![] bcast_S_S6x256 (constantI S_ 32 2147483648#32))

/-- How many first-choice tokens of a batch go to each expert, at most the capacity. -/
def keptOf (x : IVec S6x256x2x10 32) : IVec S6x10 32 :=
  minsi (shapeCast S6x10 (extractStridedSlice S6x1x1x10 ![0, 255, 0, 0] x slices_S6x256x2x10_S6x1x1x10_0_255_0_0) shapeCasts_S6x1x1x10_S6x10)
    (broadcastInDim S6x10 ![] bcast_S_S6x10 (constantI S_ 32 64#32))

/-- The positions within an expert's queue: the running count less one, a second choice after the kept first choices. -/
def posOf (E : IVec S6x256x2 32) : IVec S6x256x2 32 :=
  addi
    (subi
      (shapeCast S6x256x2 (takeOwn (cumOf (hotOf E)) (broadcastInDim S6x256x2x1 ![0, 1, 2] bcast_S6x256x2_S6x256x2x1_0_1_2 E)) shapeCasts_S6x256x2x1_S6x256x2)
      (broadcastInDim S6x256x2 ![] bcast_S_S6x256x2 (constantI S_ 32 1#32)))
    (concatenate S6x256x2 2
      [⟨S6x256x1, broadcastInDim S6x256x1 ![0, 1] bcast_S6x256_S6x256x1_0_1 (broadcastInDim S6x256 ![] bcast_S_S6x256 (constantI S_ 32 0#32))⟩,
       ⟨S6x256x1, broadcastInDim S6x256x1 ![0, 1] bcast_S6x256_S6x256x1_0_1
         (takeCnt (keptOf (cumOf (hotOf E))) (shapeCast S6x256 (extractStridedSlice S6x256x1 ![0, 0, 1] E slices_S6x256x2_S6x256x1_0_0_1) shapeCasts_S6x256x1_S6x256))⟩]
      concatenates_S6x256x1_S6x256x1_S6x256x2_d2)

/-- Which choices fit within the capacity. -/
def keepOf (P : IVec S6x256x2 32) : IVec S6x256x2 1 :=
  cmpi .slt P (broadcastInDim S6x256x2 ![] bcast_S_S6x256x2 (constantI S_ 32 64#32))

/-- The combine weights: the gate where kept, over the sum of the two gates. -/
def combOf (P : IVec S6x256x2 32) (g : FVec F S6x256x2 .f32) : FVec F S6x256x2 .f32 :=
  Host.divf (mulf g (uitofp .f32 (keepOf P)))
    (broadcastInDim S6x256x2 ![0, 1, 2] bcast_S6x256x1_S6x256x2_0_1_2
      (addf (extractStridedSlice S6x256x1 ![0, 0, 0] g slices_S6x256x2_S6x256x1_0_0_0) (extractStridedSlice S6x256x1 ![0, 0, 1] g slices_S6x256x2_S6x256x1_0_0_1)))

/-- The row each choice reads among all batches', experts' and slots' rows. -/
def flatOf (E P : IVec S6x256x2 32) : IVec S6x256x2 32 :=
  addi
    (muli
      (addi (broadcastInDim S6x256x2 ![0, 1, 2] bcast_S6x1x1_S6x256x2_0_1_2
          (muli (broadcastInDim S6x1x1 ![0] bcast_S6_S6x1x1_0 (iotaInDim S6 32 0)) (broadcastInDim S6x1x1 ![] bcast_S_S6x1x1 (constantI S_ 32 10#32)))) E)
      (broadcastInDim S6x256x2 ![] bcast_S_S6x256x2 (constantI S_ 32 64#32)))
    (minsi P (broadcastInDim S6x256x2 ![] bcast_S_S6x256x2 (constantI S_ 32 63#32)))

/-- The weights of the two rows a token combines: the combine weight times the row's scale. -/
def wgtOf (E P : IVec S6x256x2 32) (g : FVec F S6x256x2 .f32) (sc : FVec F S6x10x64 .f32) : FVec F S6x256x2 .f32 :=
  mulf (combOf P g)
    (Host.gather gather_S3840_S6x256x2x1_S6x256x2_n_0_n_n_0_3_1 (shapeCast S3840 sc shapeCasts_S6x10x64_S3840)
      (broadcastInDim S6x256x2x1 ![0, 1, 2] bcast_S6x256x2_S6x256x2x1_0_1_2 (flatOf E P)))

/-- The two rows of codes each token combines. -/
def rowsOf (E P : IVec S6x256x2 32) (codes : FVec F S6x10x64x6144 .fp8e4m3) : FVec F S6x256x2x6144 .fp8e4m3 :=
  Host.gather gather_S3840x6144_S6x256x2x1_S6x256x2x6144_3_0_n_n_0_3_16144 (shapeCast S3840x6144 codes shapeCasts_S6x10x64x6144_S3840x6144)
    (broadcastInDim S6x256x2x1 ![0, 1, 2] bcast_S6x256x2_S6x256x2x1_0_1_2 (flatOf E P))

variable (m : (ℓ : Loc nD τ sig) → Buf (Elt F) ℓ)

theorem V_main_v18 (c : Dev nD) : V m c main_v18 = posOf (m ((c : Thread nD τ).loc main_arg0)) := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  simp only [StableHlo.TRef.ofBuf_toBuf]
  simp only [StableHlo.TRef.ofBuf, StableHlo.TRef.toBuf, StableHlo.dropContentsCast]
  try rfl

theorem V_main_v20 (c : Dev nD) : V m c main_v20 = keepOf (posOf (m ((c : Thread nD τ).loc main_arg0))) := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  simp only [StableHlo.TRef.ofBuf_toBuf]
  simp only [StableHlo.TRef.ofBuf, StableHlo.TRef.toBuf, StableHlo.dropContentsCast]
  try rfl

theorem V_main_v27 (c : Dev nD) : V m c main_v27
    = combOf (posOf (m ((c : Thread nD τ).loc main_arg0))) (m ((c : Thread nD τ).loc main_arg1)) := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  simp only [StableHlo.TRef.ofBuf_toBuf]
  simp only [StableHlo.TRef.ofBuf, StableHlo.TRef.toBuf, StableHlo.dropContentsCast]
  try rfl

theorem V_main_v43 (c : Dev nD) : V m c main_v43
    = wgtOf (m ((c : Thread nD τ).loc main_arg0)) (posOf (m ((c : Thread nD τ).loc main_arg0))) (m ((c : Thread nD τ).loc main_arg1))
        (m ((c : Thread nD τ).loc main_arg3)) := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  simp only [StableHlo.TRef.ofBuf_toBuf]
  simp only [StableHlo.TRef.ofBuf, StableHlo.TRef.toBuf, StableHlo.dropContentsCast]
  try rfl

theorem V_main_v40 (c : Dev nD) : V m c main_v40
    = rowsOf (m ((c : Thread nD τ).loc main_arg0)) (posOf (m ((c : Thread nD τ).loc main_arg0))) (m ((c : Thread nD τ).loc main_arg2)) := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  simp only [StableHlo.TRef.ofBuf_toBuf]
  simp only [StableHlo.TRef.ofBuf, StableHlo.TRef.toBuf, StableHlo.dropContentsCast]
  try rfl

end Cert.ReferenceIdeal.Hand

end
-- ==== Proof.Ref.Gather.lean ====
/- The reference's four lookups at an index: where the start index is the word of a number in range, each reads the entry at
   that number. -/
module

public import proofs.«01_k».proof.Proof.Ref.Host
public import Idealize.ShloMosaic.Lib.Pointwise
public import Idealize.ShloMosaic.Lib.StableHlo.Predicate

@[expose] public section

set_option maxRecDepth 16384

noncomputable section

namespace Cert.ReferenceIdeal.Hand

open Cert.ReferenceIdeal Cert.ReferenceIdeal.Gen Idealize.ShloMosaic

variable {α : Type}

/-- A small word read signed is its number. -/
theorem word_toInt {n : Nat} (h : n < 2 ^ 31) : (BitVec.ofNat 32 n).toInt.toNat = n := by
  rw [StableHlo.Predicate.toInt_ofNat_small n h]; rfl

theorem gatherOwn_at (x : S6x256x2x10.Idx → α) (i : IVec S6x256x2x1x1 32) (b : Fin 6) (s : Fin 256) (c : Fin 2) (z : Fin 1) (e : Fin 10)
    (he : i (ix5 b s c z 0) = BitVec.ofNat 32 e.val) :
    Host.gather gather_S6x256x2x10_S6x256x2x1x1_S6x256x2x1_n_3_012_012_3_4_1111 x i (ix4 b s c z) = x (ix4 b s c e) := by
  unfold Host.gather
  refine congrArg x (funext fun a => Fin.ext ?_)
  match a with
  | ⟨0, _⟩ => show 0 + b.val + 0 = b.val; omega
  | ⟨1, _⟩ => show 0 + s.val + 0 = s.val; omega
  | ⟨2, _⟩ => show 0 + c.val + 0 = c.val; omega
  | ⟨3, _⟩ =>
    show min (i _).toInt.toNat 9 + 0 + 0 = e.val
    have hi : ∀ j : S6x256x2x1x1.Idx, j = ix5 b s c z 0 → min (i j).toInt.toNat 9 + 0 + 0 = e.val := by
      rintro j rfl
      rw [he, word_toInt (by omega)]; omega
    refine hi _ (funext fun a => ?_)
    match a with
    | ⟨0, _⟩ => rfl
    | ⟨1, _⟩ => rfl
    | ⟨2, _⟩ => rfl
    | ⟨3, _⟩ => rfl
    | ⟨4, _⟩ => rfl

theorem gatherCnt_at (x : S6x10.Idx → α) (i : IVec S6x256x1 32) (b : Fin 6) (s : Fin 256) (e : Fin 10)
    (he : i (ix3 b s 0) = BitVec.ofNat 32 e.val) :
    Host.gather gather_S6x10_S6x256x1_S6x256_n_1_0_0_1_2_11 x i (ix2 b s) = x (ix2 b e) := by
  unfold Host.gather
  refine congrArg x (funext fun a => Fin.ext ?_)
  match a with
  | ⟨0, _⟩ => show 0 + b.val + 0 = b.val; omega
  | ⟨1, _⟩ =>
    show min (i _).toInt.toNat 9 + 0 + 0 = e.val
    have hi : ∀ j : S6x256x1.Idx, j = ix3 b s 0 → min (i j).toInt.toNat 9 + 0 + 0 = e.val := by
      rintro j rfl
      rw [he, word_toInt (by omega)]; omega
    refine hi _ (funext fun a => ?_)
    match a with
    | ⟨0, _⟩ => rfl
    | ⟨1, _⟩ => rfl
    | ⟨2, _⟩ => rfl

theorem gatherScale_at (x : S3840.Idx → α) (i : IVec S6x256x2x1 32) (b : Fin 6) (s : Fin 256) (c : Fin 2) (r : Fin 3840)
    (he : i (ix4 b s c 0) = BitVec.ofNat 32 r.val) :
    Host.gather gather_S3840_S6x256x2x1_S6x256x2_n_0_n_n_0_3_1 x i (ix3 b s c) = x (ix1 r) := by
  unfold Host.gather
  refine congrArg x (funext fun a => Fin.ext ?_)
  match a with
  | ⟨0, _⟩ =>
    show min (i _).toInt.toNat 3839 + 0 + 0 = r.val
    have hi : ∀ j : S6x256x2x1.Idx, j = ix4 b s c 0 → min (i j).toInt.toNat 3839 + 0 + 0 = r.val := by
      rintro j rfl
      rw [he, word_toInt (by omega)]; omega
    refine hi _ (funext fun a => ?_)
    match a with
    | ⟨0, _⟩ => rfl
    | ⟨1, _⟩ => rfl
    | ⟨2, _⟩ => rfl
    | ⟨3, _⟩ => rfl

theorem gatherRows_at (x : S3840x6144.Idx → α) (i : IVec S6x256x2x1 32) (b : Fin 6) (s : Fin 256) (c : Fin 2) (d : Fin 6144) (r : Fin 3840)
    (he : i (ix4 b s c 0) = BitVec.ofNat 32 r.val) :
    Host.gather gather_S3840x6144_S6x256x2x1_S6x256x2x6144_3_0_n_n_0_3_16144 x i (ix4 b s c d) = x (ix2 r d) := by
  unfold Host.gather
  refine congrArg x (funext fun a => Fin.ext ?_)
  match a with
  | ⟨0, _⟩ =>
    show min (i _).toInt.toNat 3839 + 0 + 0 = r.val
    have hi : ∀ j : S6x256x2x1.Idx, j = ix4 b s c 0 → min (i j).toInt.toNat 3839 + 0 + 0 = r.val := by
      rintro j rfl
      rw [he, word_toInt (by omega)]; omega
    refine hi _ (funext fun a => ?_)
    match a with
    | ⟨0, _⟩ => rfl
    | ⟨1, _⟩ => rfl
    | ⟨2, _⟩ => rfl
    | ⟨3, _⟩ => rfl
  | ⟨1, _⟩ => show 0 + 0 + d.val = d.val; omega

end Cert.ReferenceIdeal.Hand

end
-- ==== Proof.Ref.Cum.lean ====
/- The reference's running counts at an index. -/
module

public import proofs.«01_k».proof.Proof.Ref.Host
public import proofs.«01_k».proof.Proof.Spec
public import Idealize.ShloMosaic.Lib.Routing.OpsOne
public import Idealize.ShloMosaic.Lib.ShapeFacts

@[expose] public section

set_option maxRecDepth 16384

noncomputable section

namespace Cert.ReferenceIdeal.Hand

open Cert.ReferenceIdeal Cert.ReferenceIdeal.Gen Idealize.ShloMosaic

/-- The window of the running sum: the whole sequence. -/
abbrev W256 : Shape := ⟨4, ![1, 256, 1, 1]⟩

theorem numel_window : W256.numel = 256 := (Shape.numel_rank4 _).trans (by decide)

/-- Position `n` of the window is `(0, n, 0, 0)`. -/
theorem symm_window (n : Fin W256.numel) : W256.rowMajor.symm n = ix4 (0 : Fin 1) (n.cast numel_window) (0 : Fin 1) (0 : Fin 1) :=
  (W256.rowMajor.symm_apply_eq).2 (Fin.ext (by
    rw [Shape.rowMajor_val_four]
    show n.val = ((0 * 256 + n.val) * 1 + 0) * 1 + 0
    omega))

/-- Where the entries along the sequence hold the numbers `f 0, f 1, …`, entry `s` of the running sum holds `f 0 + … + f s`. -/
theorem cumOf_at (x : IVec S6x256x2x10 32) (b : Fin 6) (c : Fin 2) (k : Fin 10) (f : Nat → Nat)
    (hx : ∀ t : Fin 256, x (ix4 b t c k) = BitVec.ofNat 32 (f t.val)) (s : Fin 256) :
    cumOf x (ix4 b s c k) = BitVec.ofNat 32 ((List.range (s.val + 1)).map f).sum := by
  have hs := s.isLt
  have hb := b.isLt
  have hc := c.isLt
  have hk := k.isLt
  unfold cumOf Host.reduceWindow
  refine (Routing.foldl_addi_ofNat _ _ (fun n => if 255 ≤ s.val + n.val then f (s.val + n.val - 255) else 0) (fun n _ => ?_) _ 0 rfl).trans ?_
  · have hw0 : (W256.rowMajor.symm n 0).val = 0 := by rw [symm_window]; rfl
    have hw1 : (W256.rowMajor.symm n 1).val = n.val := by rw [symm_window]; rfl
    have hw2 : (W256.rowMajor.symm n 2).val = 0 := by rw [symm_window]; rfl
    have hw3 : (W256.rowMajor.symm n 3).val = 0 := by rw [symm_window]; rfl
    have hn : n.val < 256 := (n.cast numel_window).isLt
    dsimp only
    split
    · next hin =>
      have h1 := hin 1
      change 255 ≤ s.val * 1 + (W256.rowMajor.symm n 1).val ∧ s.val * 1 + (W256.rowMajor.symm n 1).val - 255 < 256 at h1
      rw [hw1] at h1
      rw [if_pos (by omega)]
      refine (congrArg x (funext fun a => Fin.ext ?_)).trans (hx ⟨s.val + n.val - 255, by omega⟩)
      match a with
      | ⟨0, _⟩ => show b.val * 1 + (W256.rowMajor.symm n 0).val - 0 = b.val; rw [hw0]; omega
      | ⟨1, _⟩ => show s.val * 1 + (W256.rowMajor.symm n 1).val - 255 = s.val + n.val - 255; rw [hw1]; omega
      | ⟨2, _⟩ => show c.val * 1 + (W256.rowMajor.symm n 2).val - 0 = c.val; rw [hw2]; omega
      | ⟨3, _⟩ => show k.val * 1 + (W256.rowMajor.symm n 3).val - 0 = k.val; rw [hw3]; omega
    · next hin =>
      rw [if_neg fun hle => hin fun a => by
        match a with
        | ⟨0, _⟩ => show 0 ≤ b.val * 1 + (W256.rowMajor.symm n 0).val ∧ b.val * 1 + (W256.rowMajor.symm n 0).val - 0 < 6; rw [hw0]; omega
        | ⟨1, _⟩ => show 255 ≤ s.val * 1 + (W256.rowMajor.symm n 1).val ∧ s.val * 1 + (W256.rowMajor.symm n 1).val - 255 < 256; rw [hw1]; omega
        | ⟨2, _⟩ => show 0 ≤ c.val * 1 + (W256.rowMajor.symm n 2).val ∧ c.val * 1 + (W256.rowMajor.symm n 2).val - 0 < 2; rw [hw2]; omega
        | ⟨3, _⟩ => show 0 ≤ k.val * 1 + (W256.rowMajor.symm n 3).val ∧ k.val * 1 + (W256.rowMajor.symm n 3).val - 0 < 10; rw [hw3]; omega]
      rfl
  · rw [Nat.zero_add, Routing.map_finRange_val _ (fun w => if 255 ≤ s.val + w then f (s.val + w - 255) else 0)]
    exact congrArg (BitVec.ofNat 32) ((congrArg (fun M => ((List.range M).map fun w => if 255 ≤ s.val + w then f (s.val + w - 255) else 0).sum)
      numel_window).trans (Routing.sum_window f 255 s.val (by omega)))

/-- A prefix sum as a sum over all tokens. -/
theorem sum_prefix (f : Nat → Nat) (s : Fin 256) : ((List.range (s.val + 1)).map f).sum = ∑ t : Fin 256, if t ≤ s then f t.val else 0 := by
  have hs := s.isLt
  have h1 : ∀ n : Nat, ((List.range n).map f).sum = ∑ i ∈ Finset.range n, f i := fun n => by
    induction n with
    | zero => rfl
    | succ n ih => rw [List.range_succ, List.map_append, List.sum_append, ih, Finset.sum_range_succ]; simp
  rw [h1, show (∑ t : Fin 256, if t ≤ s then f t.val else 0) = ∑ t : Fin 256, (fun n : Nat => if n ≤ s.val then f n else 0) t.val from rfl,
    Fin.sum_univ_eq_sum_range (fun n : Nat => if n ≤ s.val then f n else 0) 256, ← Finset.sum_filter]
  refine Finset.sum_congr (Finset.ext fun n => ?_) fun _ _ => rfl
  rw [Finset.mem_range, Finset.mem_filter, Finset.mem_range]
  omega

variable (E : IVec S6x256x2 32)

/-- The ids of batch `b` as numbers. -/
def ids (b : Fin 6) : Fin 256 → Fin 2 → Nat := fun s c => (E (ix3 b s c)).toNat

/-- The one-hot rows at an index. -/
theorem hotOf_at (b : Fin 6) (s : Fin 256) (c : Fin 2) (k : Fin 10) :
    hotOf E (ix4 b s c k) = BitVec.ofNat 32 (if ids E b s c = k.val then 1 else 0) := by
  pointwise [hotOf]
  by_cases h : E (ix3 b s c) = BitVec.ofNat 32 k.val
  · have h' : ids E b s c = k.val := by unfold ids; rw [h, BitVec.toNat_ofNat, Nat.mod_eq_of_lt (by omega)]
    rw [if_pos h', h]; simp [IntOp.cmpi]
  · have h' : ids E b s c ≠ k.val := fun q => h (by rw [← q]; unfold ids; rw [BitVec.ofNat_toNat, BitVec.setWidth_eq])
    rw [if_neg h']; simp only [IntOp.cmpi]; rw [beq_eq_false_iff_ne.2 h]; rfl

/-- The running counts at an index. -/
theorem cumHot_at (b : Fin 6) (s : Fin 256) (c : Fin 2) (k : Fin 10) :
    cumOf (hotOf E) (ix4 b s c k) = BitVec.ofNat 32 (Moe.upto (fun t => ids E b t c) k.val s) := by
  rw [cumOf_at (hotOf E) b c k (fun n => if h : n < 256 then if ids E b ⟨n, h⟩ c = k.val then 1 else 0 else 0)
    (fun t => by rw [hotOf_at, dif_pos t.isLt]) s, sum_prefix]
  refine congrArg (BitVec.ofNat 32) (Finset.sum_congr rfl fun t _ => ?_)
  dsimp only
  rw [dif_pos t.isLt]
  by_cases h : t ≤ s <;> simp [h]

end Cert.ReferenceIdeal.Hand

end
-- ==== Proof.Ref.Read.lean ====
/- The reference's host arrays at an index, its ids being in range. -/
module

public import proofs.«01_k».proof.Proof.Ref.Gather
public import proofs.«01_k».proof.Proof.Ref.Cum

@[expose] public section

set_option maxRecDepth 16384

noncomputable section

namespace Cert.ReferenceIdeal.Hand

open Cert.ReferenceIdeal Cert.ReferenceIdeal.Gen Idealize.ShloMosaic

/-- A small word is not negative. -/
theorem slt_zero_word {e : Nat} (he : e < 2 ^ 31) : IntOp.cmpi .slt (BitVec.ofNat 32 e) 0#32 = 0#1 := by
  refine ValueIdx.eq_zero_of_ne_one fun h => ?_
  have := (StableHlo.Predicate.slt_ofNat_iff e 0 he (by decide)).1 h
  omega

theorem sge_zero_word {e : Nat} (he : e < 2 ^ 31) : IntOp.cmpi .sge (BitVec.ofNat 32 e) 0#32 = 1#1 := by
  have hn : (BitVec.ofNat 32 e).toNat = e := by rw [BitVec.toNat_ofNat, Nat.mod_eq_of_lt (by omega)]
  exact (StableHlo.Predicate.sge_iff_toNat (by rw [hn]; exact he) (by decide)).2 (Nat.zero_le _)

theorem sle_word {a b : Nat} (ha : a < 2 ^ 31) (hb : b < 2 ^ 31) (h : a ≤ b) : IntOp.cmpi .sle (BitVec.ofNat 32 a) (BitVec.ofNat 32 b) = 1#1 :=
  (StableHlo.Predicate.sle_ofNat_iff a b ha hb).2 h

/-- A conjunction of one bit. -/
theorem fold_one (f : Fin 1 → BitVec 1) (h : f 0 = 1#1) : Finset.fold IntOp.andi (1#1) f Finset.univ = 1#1 := by
  rw [Finset.univ_unique, Finset.fold_singleton, show (default : Fin 1) = 0 from rfl, h]
  rfl

/-- Words: less one, then more. -/
theorem word_shift (a m : Nat) : IntOp.addi (IntOp.subi (BitVec.ofNat 32 a) 1#32) (BitVec.ofNat 32 m) = BitVec.ofNat 32 (a + m) - 1#32 := by
  show BitVec.ofNat 32 a - 1#32 + BitVec.ofNat 32 m = _
  rw [BitVec.ofNat_add, add_sub_right_comm]

theorem ownIdx_at (i : IVec S6x256x2x1 32) (b : Fin 6) (s : Fin 256) (c : Fin 2) (e : Fin 10)
    (he : i (ix4 b s c 0) = BitVec.ofNat 32 e.val) : ownIdx i (ix5 b s c 0 0) = BitVec.ofNat 32 e.val := by
  pointwise [ownIdx]
  rw [he, slt_zero_word (by omega)]
  rfl

theorem takeOwn_at (x : IVec S6x256x2x10 32) (i : IVec S6x256x2x1 32) (b : Fin 6) (s : Fin 256) (c : Fin 2) (e : Fin 10)
    (he : i (ix4 b s c 0) = BitVec.ofNat 32 e.val) : takeOwn x i (ix4 b s c 0) = x (ix4 b s c e) := by
  have hi := ownIdx_at i b s c e he
  unfold takeOwn
  rw [ValueIdx.select_apply, gatherOwn_at x (ownIdx i) b s c 0 e hi]
  have hm : ∀ m : IVec S6x256x2x1 1, m (ix4 b s c 0) = 1#1 → ∀ p q : BitVec 32, Scalar.select (m (ix4 b s c 0)) p q = p := by
    intro m h p q; rw [h]; rfl
  refine hm _ ?_ _ _
  pointwise
  refine fold_one _ ?_
  rw [hi, sge_zero_word (by omega), sle_word (by omega) (by decide) (show e.val ≤ 9 by omega)]
  rfl

theorem cntIdx_at (i : IVec S6x256 32) (b : Fin 6) (s : Fin 256) (e : Fin 10)
    (he : i (ix2 b s) = BitVec.ofNat 32 e.val) : cntIdx i (ix3 b s 0) = BitVec.ofNat 32 e.val := by
  pointwise [cntIdx]
  rw [he, slt_zero_word (by omega)]
  rfl

theorem takeCnt_at (x : IVec S6x10 32) (i : IVec S6x256 32) (b : Fin 6) (s : Fin 256) (e : Fin 10)
    (he : i (ix2 b s) = BitVec.ofNat 32 e.val) : takeCnt x i (ix2 b s) = x (ix2 b e) := by
  have hi := cntIdx_at i b s e he
  unfold takeCnt
  rw [ValueIdx.select_apply, gatherCnt_at x (cntIdx i) b s e hi]
  have hm : ∀ m : IVec S6x256 1, m (ix2 b s) = 1#1 → ∀ p q : BitVec 32, Scalar.select (m (ix2 b s)) p q = p := by
    intro m h p q; rw [h]; rfl
  refine hm _ ?_ _ _
  pointwise
  refine fold_one _ ?_
  rw [hi, sge_zero_word (by omega), sle_word (by omega) (by decide) (show e.val ≤ 9 by omega)]
  rfl

variable (E : IVec S6x256x2 32) (hE : ∀ i, (E i).toNat < 10)
include hE

/-- An id is the word of its number. -/
theorem id_word (b : Fin 6) (s : Fin 256) (c : Fin 2) :
    E (ix3 b s c) = BitVec.ofNat 32 (⟨ids E b s c, hE _⟩ : Fin 10).val := by
  show _ = BitVec.ofNat 32 (E (ix3 b s c)).toNat
  rw [BitVec.ofNat_toNat, BitVec.setWidth_eq]

theorem keptOf_at (b : Fin 6) (k : Fin 10) :
    keptOf (cumOf (hotOf E)) (ix2 b k) = BitVec.ofNat 32 (min (Moe.total (fun t => ids E b t 0) k.val) 64) := by
  have h := cumHot_at E b 255 0 k
  rw [Moe.upto_last] at h
  rw [← Moe.minsi_word (by have := Moe.total_le (fun t => ids E b t 0) k.val; omega) (by decide), ← h]
  pointwise [keptOf]
  try rfl

/-- The positions: the word of the choice's place in its expert's queue. -/
theorem posOf_at (b : Fin 6) (s : Fin 256) (c : Fin 2) : posOf E (ix3 b s c) = BitVec.ofNat 32 (Moe.place (ids E b) s c) := by
  rw [← Moe.word_place]
  have hown := takeOwn_at (cumOf (hotOf E)) (broadcastInDim S6x256x2x1 ![0, 1, 2] bcast_S6x256x2_S6x256x2x1_0_1_2 E) b s c
    ⟨ids E b s c, hE _⟩ (by pointwise; exact id_word E hE b s c)
  rw [cumHot_at] at hown
  have hcnt := takeCnt_at (keptOf (cumOf (hotOf E))) (shapeCast S6x256 (extractStridedSlice S6x256x1 ![0, 0, 1] E slices_S6x256x2_S6x256x1_0_0_1) shapeCasts_S6x256x1_S6x256) b s
    ⟨ids E b s 1, hE _⟩ (by pointwise; exact id_word E hE b s 1)
  rw [keptOf_at E hE] at hcnt
  unfold posOf
  generalize takeOwn _ _ = A at *
  generalize takeCnt _ _ = B at *
  pointwise
  unfold Moe.rank
  rw [← word_shift, hown]
  by_cases h : c = 0
  · subst h; rfl
  · obtain rfl : c = 1 := by omega
    rw [dif_neg (by decide), if_neg (by decide), hcnt]

omit hE in
/-- The keep flags. -/
theorem keepOf_at' (P : IVec S6x256x2 32) (i : S6x256x2.Idx) : keepOf P i = IntOp.cmpi .slt (P i) 64#32 := by
  idx_vars i
  pointwise [keepOf]

theorem keepOf_at (b : Fin 6) (s : Fin 256) (c : Fin 2) : keepOf (posOf E) (ix3 b s c) = Moe.keepBit (ids E b) s c := by
  rw [keepOf_at', posOf_at E hE]; rfl

/-- The combine weights. -/
theorem combOf_at (g : FVec Ideal S6x256x2 .f32) (b : Fin 6) (s : Fin 256) (c : Fin 2) :
    combOf (posOf E) g (ix3 b s c) = Moe.comb (ids E b) (fun s c => g (ix3 b s c)) s c := by
  have h := keepOf_at E hE b s c
  unfold combOf
  generalize keepOf _ = K at *
  pointwise
  rw [h]
  rfl

/-- The row each choice reads. -/
theorem flatOf_at (b : Fin 6) (s : Fin 256) (c : Fin 2) :
    flatOf E (posOf E) (ix3 b s c) = BitVec.ofNat 32 ((b.val * 10 + ids E b s c) * 64 + Moe.slot (ids E b) s c) := by
  have hp := posOf_at E hE b s c
  have hi := id_word E hE b s c
  dsimp only at hi
  unfold flatOf
  generalize posOf _ = P at *
  pointwise
  rw [hp, hi, Moe.minsi_place, BitVec.ofNat_add, BitVec.ofNat_mul, BitVec.ofNat_add, BitVec.ofNat_mul]
  rfl

/-- That row as a number. -/
theorem row_lt (b : Fin 6) (s : Fin 256) (c : Fin 2) : (b.val * 10 + ids E b s c) * 64 + Moe.slot (ids E b) s c < 3840 := by
  have := Moe.slot_lt (ids E b) s c
  have : ids E b s c < 10 := hE _
  omega

/-- The weights of the two rows. -/
theorem wgtOf_at (g : FVec Ideal S6x256x2 .f32) (sc : FVec Ideal S6x10x64 .f32) (b : Fin 6) (s : Fin 256) (c : Fin 2) :
    wgtOf E (posOf E) g sc (ix3 b s c)
      = Moe.comb (ids E b) (fun s c => g (ix3 b s c)) s c * sc (ix3 b ⟨ids E b s c, hE _⟩ ⟨Moe.slot (ids E b) s c, Moe.slot_lt _ _ _⟩) := by
  unfold wgtOf
  rw [ValueIdx.mulf_apply, combOf_at E hE, gatherScale_at _ _ b s c ⟨_, row_lt E hE b s c⟩ (by pointwise; exact flatOf_at E hE b s c)]
  refine congrArg _ ?_
  have hs := Moe.slot_lt (ids E b) s c
  have hi : ids E b s c < 10 := hE _
  pointwise
  refine congrArg sc ?_
  congr 1 <;> exact Fin.ext (by dsimp only; omega)

/-- The two rows of codes. -/
theorem rowsOf_at (codes : FVec Ideal S6x10x64x6144 .fp8e4m3) (b : Fin 6) (s : Fin 256) (c : Fin 2) (d : Fin 6144) :
    rowsOf E (posOf E) codes (ix4 b s c d)
      = codes (ix4 b ⟨ids E b s c, hE _⟩ ⟨Moe.slot (ids E b) s c, Moe.slot_lt _ _ _⟩ d) := by
  unfold rowsOf
  rw [gatherRows_at _ _ b s c d ⟨_, row_lt E hE b s c⟩ (by pointwise; exact flatOf_at E hE b s c)]
  have hs := Moe.slot_lt (ids E b) s c
  have hi : ids E b s c < 10 := hE _
  pointwise
  refine congrArg codes ?_
  congr 1 <;> exact Fin.ext (by dsimp only; omega)

end Cert.ReferenceIdeal.Hand

end
-- ==== Proof.Ref.Final.lean ====
/- What the reference leaves in its four results. -/
module

public import proofs.«01_k».proof.Proof.Ref.Read
public import proofs.«01_k».proof.Proof.Gen.ReferenceIdeal.Value
public import Idealize.ShloMosaic.Lib.Pipeline.ValueKit

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe Idealize.SL.Sem

variable (m : (ℓ : Loc nD τ sig) → Buf (Elt Ideal) ℓ) (ρ : Dev nD → PrngReg)

/-- The combined rows: the weighted sum of the two rows of a token. -/
def yOf (w : FVec Ideal S6x256x2 .f32) (r : FVec Ideal S6x256x2x6144 .fp8e4m3) : FVec Ideal S6x256x6144 .bf16 := fun i =>
  (w (ix3 (i 0) (i 1) 0) * r (ix4 (i 0) (i 1) 0 (i 2)) + w (ix3 (i 0) (i 1) 1) * r (ix4 (i 0) (i 1) 1 (i 2)) : EReal)

theorem index0 (t : Fin cfg0.N) : win0_0.index t = ![0, 0, 0] := (by decide +kernel : ∀ t : Fin grid0.N, win0_0.index t = ![0, 0, 0]) t

theorem index1 (t : Fin cfg0.N) : win0_1.index t = ![0, 0, 0, 0] := (by decide +kernel : ∀ t : Fin grid0.N, win0_1.index t = ![0, 0, 0, 0]) t

theorem index2 (t : Fin cfg0.N) : win0_2.index t = ![0, 0, 0] := (by decide +kernel : ∀ t : Fin grid0.N, win0_2.index t = ![0, 0, 0]) t

/-- The block of weights is the whole array. -/
theorem block0 (c : Dev nD) (t : Fin cfg0.N) (x : S6x256x2.Idx) : iblk m c 0 t x = V m c main_v43 x := by
  blk_simp [iblk]
  refine congrArg (V m c main_v43) ?_
  blk_ext [index0]

/-- The block of rows is the whole array. -/
theorem block1 (c : Dev nD) (t : Fin cfg0.N) (x : S6x256x2x6144.Idx) : iblk m c 1 t x = V m c main_v40 x := by
  blk_simp [iblk]
  refine congrArg (V m c main_v40) ?_
  blk_ext [index1]

theorem place2 (t : Fin cfg0.N) (y : S6x256x6144.Idx) : (win0_2.blk t).view.emb y = y := by
  blk_ext [index2]

/-- The body's arithmetic at an index. -/
theorem body_eq (w : FVec Ideal S6x256x2 .f32) (r : FVec Ideal S6x256x2x6144 .fp8e4m3) (y : S6x256x6144.Idx) : E2 (F := Ideal) w r y = yOf w r y := by
  have a0 : ix2_0 y = ix3 (y 0) (y 1) 0 := by funext a; fin_cases a <;> rfl
  have a1 : ix2_1 y = ix4 (y 0) (y 1) 0 (y 2) := by funext a; fin_cases a <;> rfl
  have a2 : ix2_2 y = ix3 (y 0) (y 1) 1 := by funext a; fin_cases a <;> rfl
  have a3 : ix2_3 y = ix4 (y 0) (y 1) 1 (y 2) := by funext a; fin_cases a <;> rfl
  simp only [E2, a0, a1, a2, a3]
  rfl

/-- What the reference leaves in its first result. -/
theorem final (c : Dev nD) : (dats m 0 c).arrAt 2 cfg0.N = yOf (V m c main_v43) (V m c main_v40) := by
  refine (dats m 0 c).arrAt_eq_of_covers 2 _ (by decide +kernel) fun t hf y => ?_
  blk_simp
  rw [after0_2, place2 t y, show iblk m c 0 t = V m c main_v43 from funext (block0 m c t), show iblk m c 1 t = V m c main_v40 from funext (block1 m c t)]
  generalize V m c main_v43 = w
  generalize V m c main_v40 = r
  unfold out0_2
  rw [canon2_eq, View.ld_unit_zero (by funext a; fin_cases a <;> rfl), View.ld_unit_zero (by funext a; fin_cases a <;> rfl)]
  exact body_eq w r y

/-- The run of the reference with its four results named, the arguments unchanged. -/
theorem run : θ_run defs (onTc (τ := τ) (main (F := Ideal))) ⟨m, fun _ => 0, ρ⟩ fun r => ∀ c : Dev nD,
      r.2.mem ((c : Thread nD τ).loc main_v44)
          = yOf (wgtOf (F := Ideal) (m ((c : Thread nD τ).loc main_arg0)) (posOf (m ((c : Thread nD τ).loc main_arg0))) (m ((c : Thread nD τ).loc main_arg1))
              (m ((c : Thread nD τ).loc main_arg3)))
            (rowsOf (F := Ideal) (m ((c : Thread nD τ).loc main_arg0)) (posOf (m ((c : Thread nD τ).loc main_arg0))) (m ((c : Thread nD τ).loc main_arg2)))
      ∧ r.2.mem ((c : Thread nD τ).loc main_v27) = combOf (F := Ideal) (posOf (m ((c : Thread nD τ).loc main_arg0))) (m ((c : Thread nD τ).loc main_arg1))
      ∧ r.2.mem ((c : Thread nD τ).loc main_v18) = posOf (m ((c : Thread nD τ).loc main_arg0))
      ∧ r.2.mem ((c : Thread nD τ).loc main_v20) = keepOf (posOf (m ((c : Thread nD τ).loc main_arg0)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post2 m r h c).trans ((final m c).trans (by rw [V_main_v43, V_main_v40])),
      ((h c).2 main_v27 (Pipeline.mem_restRefs_of main_v27 (by decide) (by decide))).trans (V_main_v27 m c),
      ((h c).2 main_v18 (Pipeline.mem_restRefs_of main_v18 (by decide) (by decide))).trans (V_main_v18 m c),
      ((h c).2 main_v20 (Pipeline.mem_restRefs_of main_v20 (by decide) (by decide))).trans (V_main_v20 m c),
      kept_main_arg0 m r h c,
      kept_main_arg1 m r h c,
      kept_main_arg2 m r h c,
      kept_main_arg3 m r h c⟩)
    (run_main m ρ)

end Cert.ReferenceIdeal.Hand

end
-- ==== Proof.Equation.lean ====
/- The equation: on ids in range, the four arrays the kernel leaves are the four the reference leaves. -/
module

public import proofs.«01_k».proof.Proof.Kern.Entry
public import proofs.«01_k».proof.Proof.Kern.Rows
public import proofs.«01_k».proof.Proof.Ref.Final
public import proofs.«01_k».proof.Proof.Ref.Read

@[expose] public section

set_option maxRecDepth 16384

noncomputable section

namespace Cert.Equation

open Cert.KernelIdeal Idealize.ShloMosaic
open Cert.KernelIdeal.Hand (idsB gatesB scaleB codesB posArr keepArr combArr yArr yQuarter posBlk_eq keepBlk_eq combBlk_eq yBlk_at weight)
open Cert.ReferenceIdeal.Hand (ids posOf keepOf combOf wgtOf rowsOf yOf posOf_at keepOf_at combOf_at wgtOf_at rowsOf_at)

variable (E : IVec S6x256x2 32) (hE : ∀ i, (E i).toNat < 10)

/-- A batch's id block holds its ids. -/
theorem block_word (b : Fin 6) (s : Fin 256) (k : Fin 2) : idsB E b (ix3 0 k s) = BitVec.ofNat 32 (ids E b s k) := by
  show E (ix3 b s k) = BitVec.ofNat 32 (E (ix3 b s k)).toNat
  rw [BitVec.ofNat_toNat, BitVec.setWidth_eq]

/-- A widened flag is nonzero where the flag is set. -/
theorem flag_ne (b : BitVec 1) : IntOp.cmpi .ne (BitVec.setWidth 32 b) 0#32 = b := by
  by_cases h : b = 1#1
  · subst h; rfl
  · obtain rfl := ValueIdx.eq_zero_of_ne_one h; rfl

include hE

/-- The positions. -/
theorem pos_eq : (fun i => posArr E (ix3 (i 0) (i 2) (i 1)) : IVec S6x256x2 32) = posOf E := by
  funext (i : S6x256x2.Idx)
  idx_vars i
  rw [posOf_at E hE]
  exact congrFun (posBlk_eq (idsB E i0) (ids E i0) (block_word E i0) (fun _ _ => hE _)) (ix3 0 i2 i1)

/-- The keep flags. -/
theorem keep_eq : (fun i => IntOp.cmpi .ne (keepArr E (ix3 (i 0) (i 2) (i 1))) 0#32 : IVec S6x256x2 1) = keepOf (posOf E) := by
  funext (i : S6x256x2.Idx)
  idx_vars i
  rw [keepOf_at E hE]
  have h := congrFun (keepBlk_eq (idsB E i0) (ids E i0) (block_word E i0) (fun _ _ => hE _)) (ix3 0 i2 i1)
  exact (congrArg (IntOp.cmpi .ne · 0#32) h).trans (flag_ne _)

/-- The combine weights. -/
theorem comb_eq (g : FVec Ideal S6x256x2 .f32) :
    (fun i => combArr E g (ix3 (i 0) (i 2) (i 1)) : FVec Ideal S6x256x2 .f32) = combOf (F := Ideal) (posOf E) g := by
  funext (i : S6x256x2.Idx)
  idx_vars i
  rw [combOf_at E hE]
  exact congrFun (combBlk_eq (idsB E i0) (ids E i0) (block_word E i0) (fun _ _ => hE _) (gatesB g i0)) (ix3 0 i2 i1)

/-- One lane block of a batch's tokens. -/
theorem quarter_at (g : FVec Ideal S6x256x2 .f32) (q : FVec Ideal S6x10x64x6144 .fp8e4m3) (sc : FVec Ideal S6x10x64 .f32)
    (b : Fin 6) (s : Fin 256) (d : Fin 4) (l : Fin 1536) :
    (yQuarter E g q sc b d (ix3 0 s l) : EReal)
      = yOf (wgtOf (F := Ideal) E (posOf E) g sc) (rowsOf (F := Ideal) E (posOf E) q) (ix3 b s ⟨1536 * d.val + l.val, by omega⟩) := by
  have h := yBlk_at (idsB E b) (ids E b) (block_word E b) (fun _ _ => hE _) (gatesB g b) (scaleB sc b) (codesB q b d) s l
  have hw := wgtOf_at E hE g sc b s
  have hr := fun c => rowsOf_at E hE q b s c ⟨1536 * d.val + l.val, by omega⟩
  refine h.trans ?_
  show _ = (wgtOf (F := Ideal) E (posOf E) g sc (ix3 b s 0) * rowsOf (F := Ideal) E (posOf E) q (ix4 b s 0 ⟨1536 * d.val + l.val, by omega⟩)
    + wgtOf (F := Ideal) E (posOf E) g sc (ix3 b s 1) * rowsOf (F := Ideal) E (posOf E) q (ix4 b s 1 ⟨1536 * d.val + l.val, by omega⟩) : EReal)
  rw [hw 0, hw 1, hr 0, hr 1]
  rfl

/-- The tokens' outputs. -/
theorem y_eq (g : FVec Ideal S6x256x2 .f32) (q : FVec Ideal S6x10x64x6144 .fp8e4m3) (sc : FVec Ideal S6x10x64 .f32) :
    yArr E g q sc = yOf (wgtOf (F := Ideal) E (posOf E) g sc) (rowsOf (F := Ideal) E (posOf E) q) := by
  funext (i : S6x256x6144.Idx)
  idx_vars i
  have hd : (⟨1536 * (i2.val / 1536) + i2.val % 1536, by omega⟩ : Fin 6144) = i2 := Fin.ext (Nat.div_add_mod ..)
  have h := quarter_at E hE g q sc i0 i1 ⟨i2.val / 1536, by omega⟩ ⟨i2.val % 1536, by omega⟩
  rw [hd] at h
  exact h

end Cert.Equation

end
-- ==== Proof.lean ====
/- The certificate of the mixture-of-experts combine kernel. The frames and the runs come from the modules of each program;
   `Proof/Equation.lean` says that what the two runs leave is equal; this file puts them together. -/
module

public import proofs.«01_k».proof.Defs
public import proofs.«01_k».proof.Proof.Gen.Kernel
public import proofs.«01_k».proof.Proof.Kern.SameText
public import proofs.«01_k».proof.Proof.Gen.KernelIdeal
public import proofs.«01_k».proof.Proof.Gen.ReferenceIdeal
public import proofs.«01_k».proof.Proof.Gen.ReferenceIdeal.Frame
public import proofs.«01_k».proof.Proof.InRange
public import proofs.«01_k».proof.Proof.Equation

@[expose] public section

noncomputable section

namespace Cert.Proof

open Idealize.ShloMosaic Idealize.SL.Sem

/-- From equal arguments with ids in range, the kernel and the reference leave equal results. -/
theorem algebraic : Cert.algebraic_KernelIdeal_ReferenceIdeal_pre_experts_in_range := fun m g m' g' hpre hargs => by
  have hE : ∀ (c : Dev Cert.KernelIdeal.nD) i, (m ((c.tc : Thread Cert.KernelIdeal.nD Cert.KernelIdeal.τ).loc Cert.KernelIdeal.main_arg0) i).toNat < 10 :=
    fun c => Cert.InRange.ids_lt _ _ _ _ (hpre c)
  have hk := Cert.KernelIdeal.Hand.run m g
  have hr := Cert.ReferenceIdeal.Hand.run m' g'
  refine ⟨_, _, _, _, hk, (θ_run _ _ _).mono (fun r h c => ?_) hr⟩
  obtain ⟨e0, e1, e2, e3⟩ := hargs c
  obtain ⟨h0, h1, h2, h3, ha⟩ := h c
  rw [e0, e1, e2, e3] at h0
  rw [e0, e1] at h1
  rw [e0] at h2 h3
  exact ⟨h0.trans (Cert.Equation.y_eq _ (hE c) _ _ _).symm, h1.trans (Cert.Equation.comb_eq _ (hE c) _).symm,
    h2.trans (Cert.Equation.pos_eq _ (hE c)).symm, h3.trans (Cert.Equation.keep_eq _ (hE c)).symm, ha⟩

/-- Every claim of the certificate: the frames, the empty ledger of rewrites, and the equality of results. -/
theorem claim : Cert.Claim := ⟨Cert.Kernel.Gen.facts, Cert.KernelIdeal.Gen.facts, Cert.ReferenceIdeal.Gen.facts, Cert.InRange.facts,
  fun m ρ _ => Cert.SameText.frame m ρ,
  fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ,
  trivial, algebraic⟩

end Cert.Proof

end
